-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_v1_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x2048x16384 : Shape := ⟨3, ![6, 2048, 16384]⟩
abbrev S6144x16384 : Shape := ⟨2, ![6144, 16384]⟩
abbrev S48x128 : Shape := ⟨2, ![48, 128]⟩
abbrev S12288x16384 : Shape := ⟨2, ![12288, 16384]⟩
abbrev S12288x6144 : Shape := ⟨2, ![12288, 6144]⟩
abbrev S12288x48 : Shape := ⟨2, ![12288, 48]⟩
abbrev S24x4x6144 : Shape := ⟨3, ![24, 4, 6144]⟩
abbrev S12288x128 : Shape := ⟨2, ![12288, 128]⟩
abbrev S512x2048 : Shape := ⟨2, ![512, 2048]⟩
abbrev S512x16384 : Shape := ⟨2, ![512, 16384]⟩
abbrev S512x512 : Shape := ⟨2, ![512, 512]⟩
abbrev S512x48 : Shape := ⟨2, ![512, 48]⟩
abbrev S1x4x512 : Shape := ⟨3, ![1, 4, 512]⟩
abbrev S512x128 : Shape := ⟨2, ![512, 128]⟩
abbrev S2x512x16384 : Shape := ⟨3, ![2, 512, 16384]⟩
abbrev S512 : Shape := ⟨1, ![512]⟩
abbrev S512x1 : Shape := ⟨2, ![512, 1]⟩
abbrev S1x512x16384 : Shape := ⟨3, ![1, 512, 16384]⟩
abbrev S1x512x128 : Shape := ⟨3, ![1, 512, 128]⟩
abbrev S128x128 : Shape := ⟨2, ![128, 128]⟩
abbrev S1x1 : Shape := ⟨2, ![1, 1]⟩
abbrev S128 : Shape := ⟨1, ![128]⟩
abbrev S1x128 : Shape := ⟨2, ![1, 128]⟩
abbrev S1x1x128 : Shape := ⟨3, ![1, 1, 128]⟩

abbrev nBuf : Space → Nat
  | .hbm => 10
  | .vmem => 18
  | .smem => 1
  | _ => 0

abbrev bufTy : (tb : Table) → Fin (tcTables nBuf tb) → BufTy
  | .hbm, ⟨0, _⟩ => ⟨S6x2048x16384, .bf16⟩
  | .hbm, ⟨1, _⟩ => ⟨S6144x16384, .fp8e4m3⟩
  | .hbm, ⟨2, _⟩ => ⟨S48x128, .f32⟩
  | .hbm, ⟨3, _⟩ => ⟨S12288x16384, .bf16⟩
  | .hbm, ⟨4, _⟩ => ⟨S12288x6144, .fp8e4m3⟩
  | .hbm, ⟨5, _⟩ => ⟨S12288x48, .f32⟩
  | .hbm, ⟨6, _⟩ => ⟨S12288x6144, .fp8e4m3⟩
  | .hbm, ⟨7, _⟩ => ⟨S24x4x6144, .f32⟩
  | .hbm, ⟨8, _⟩ => ⟨S12288x16384, .fp8e4m3⟩
  | .hbm, ⟨9, _⟩ => ⟨S12288x128, .f32⟩
  | .local _ .vmem, ⟨0, _⟩ => ⟨S512x2048, .bf16⟩
  | .local _ .vmem, ⟨1, _⟩ => ⟨S512x2048, .bf16⟩
  | .local _ .vmem, ⟨2, _⟩ => ⟨S512x16384, .fp8e4m3⟩
  | .local _ .vmem, ⟨3, _⟩ => ⟨S512x16384, .fp8e4m3⟩
  | .local _ .vmem, ⟨4, _⟩ => ⟨S512x512, .fp8e4m3⟩
  | .local _ .vmem, ⟨5, _⟩ => ⟨S512x512, .fp8e4m3⟩
  | .local _ .vmem, ⟨6, _⟩ => ⟨S512x48, .f32⟩
  | .local _ .vmem, ⟨7, _⟩ => ⟨S512x48, .f32⟩
  | .local _ .vmem, ⟨8, _⟩ => ⟨S512x512, .fp8e4m3⟩
  | .local _ .vmem, ⟨9, _⟩ => ⟨S512x512, .fp8e4m3⟩
  | .local _ .vmem, ⟨10, _⟩ => ⟨S1x4x512, .f32⟩
  | .local _ .vmem, ⟨11, _⟩ => ⟨S1x4x512, .f32⟩
  | .local _ .vmem, ⟨12, _⟩ => ⟨S512x2048, .fp8e4m3⟩
  | .local _ .vmem, ⟨13, _⟩ => ⟨S512x2048, .fp8e4m3⟩
  | .local _ .vmem, ⟨14, _⟩ => ⟨S512x128, .f32⟩
  | .local _ .vmem, ⟨15, _⟩ => ⟨S512x128, .f32⟩
  | .local _ .vmem, ⟨16, _⟩ => ⟨S2x512x16384, .bf16⟩
  | .local _ .vmem, ⟨17, _⟩ => ⟨S512x512, .f32⟩
  | .local _ .smem, ⟨0, _⟩ => ⟨S48x128, .f32⟩
  | _, _ => ⟨S6x2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![25, 12], ![false, false]⟩

def k0_mult1 (i : grid0.Coords) : BitVec 32 :=
  let arg0 : BitVec 32 := BitVec.ofNat 32 (i 0).val
  let c24_i32 : BitVec 32 := 24#32
  let v1 : BitVec 1 := Scalar.cmpi .eq arg0 c24_i32
  let c7_i32_0 : BitVec 32 := 7#32
  let arg1 : BitVec 32 := BitVec.ofNat 32 (i 1).val
  let c7_i32 : BitVec 32 := 7#32
  let v2 : BitVec 32 := Scalar.minsi arg1 c7_i32
  let v3 : BitVec 32 := Scalar.select v1 c7_i32_0 v2
  let c2048_i32 : BitVec 32 := 2048#32
  let v4 : BitVec 32 := Scalar.muli v3 c2048_i32
  v4
def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_1 : BitVec 32 := 0#32
  let v8 : BitVec 1 := Scalar.cmpi .ne v7 c0_i32_1
  v8

def k0_off1 (i : grid0.Coords) : Fin 3 → Nat :=
  let arg0 : BitVec 32 := BitVec.ofNat 32 (i 0).val
  let c2_i32 : BitVec 32 := 2#32
  let v0 : BitVec 32 := Scalar.remsi arg0 c2_i32
  let c0_i32_33 : BitVec 32 := 0#32
  let c0_i32_34 : BitVec 32 := 0#32
  ![v0.toNat, 0, 0]
def k0_off2 (i : grid0.Coords) (c0_i32_32 : BitVec 32) : Fin 2 → Nat :=
  let c0_35 : Index := 0#32
  let arg0 : BitVec 32 := BitVec.ofNat 32 (i 0).val
  let c24_i32 : BitVec 32 := 24#32
  let v1 : BitVec 1 := Scalar.cmpi .eq arg0 c24_i32
  let c7_i32_0 : BitVec 32 := 7#32
  let arg1 : BitVec 32 := BitVec.ofNat 32 (i 1).val
  let c7_i32 : BitVec 32 := 7#32
  let v2 : BitVec 32 := Scalar.minsi arg1 c7_i32
  let v3 : BitVec 32 := Scalar.select v1 c7_i32_0 v2
  let c2048_i32 : BitVec 32 := 2048#32
  let v4 : BitVec 32 := Scalar.muli v3 c2048_i32
  let v5 : BitVec 32 := v4
  let v125 : BitVec 32 := Scalar.addi v5 c0_i32_32
  let v128 : Index := Scalar.indexCast v125
  ![0, v128.toNat]
def k0_off3 (i : grid0.Coords) (c0_i32_32 : BitVec 32) : Fin 3 → Nat :=
  let arg0 : BitVec 32 := BitVec.ofNat 32 (i 0).val
  let c2_i32 : BitVec 32 := 2#32
  let v0 : BitVec 32 := Scalar.remsi arg0 c2_i32
  let c0_i32_33 : BitVec 32 := 0#32
  let c24_i32 : BitVec 32 := 24#32
  let v1 : BitVec 1 := Scalar.cmpi .eq arg0 c24_i32
  let c7_i32_0 : BitVec 32 := 7#32
  let arg1 : BitVec 32 := BitVec.ofNat 32 (i 1).val
  let c7_i32 : BitVec 32 := 7#32
  let v2 : BitVec 32 := Scalar.minsi arg1 c7_i32
  let v3 : BitVec 32 := Scalar.select v1 c7_i32_0 v2
  let c2048_i32 : BitVec 32 := 2048#32
  let v4 : BitVec 32 := Scalar.muli v3 c2048_i32
  let v5 : BitVec 32 := v4
  let v125 : BitVec 32 := Scalar.addi v5 c0_i32_32
  let v128 : Index := Scalar.indexCast v125
  ![v0.toNat, 0, v128.toNat]
def k0_cond2 (i : grid0.Coords) : BitVec 1 :=
  let arg0 : BitVec 32 := BitVec.ofNat 32 (i 0).val
  let c0_i32_2 : BitVec 32 := 0#32
  let v9 : BitVec 1 := Scalar.cmpi .sgt arg0 c0_i32_2
  let v10 : BitVec 32 := Scalar.extui v9
  let c0_i32_3 : BitVec 32 := 0#32
  let v11 : BitVec 1 := Scalar.cmpi .ne v10 c0_i32_3
  v11

def k0_off4 (i : grid0.Coords) : Fin 3 → Nat :=
  let arg0 : BitVec 32 := BitVec.ofNat 32 (i 0).val
  let c2_i32 : BitVec 32 := 2#32
  let v0 : BitVec 32 := Scalar.remsi arg0 c2_i32
  let c0_i32_33 : BitVec 32 := 0#32
  let c0_i32_34 : BitVec 32 := 0#32
  ![v0.toNat, 0, 0]
def k0_off5 (i : grid0.Coords) (c0_i32_32 : BitVec 32) : Fin 2 → Nat :=
  let c0_35 : Index := 0#32
  let arg0 : BitVec 32 := BitVec.ofNat 32 (i 0).val
  let c24_i32 : BitVec 32 := 24#32
  let v1 : BitVec 1 := Scalar.cmpi .eq arg0 c24_i32
  let c7_i32_0 : BitVec 32 := 7#32
  let arg1 : BitVec 32 := BitVec.ofNat 32 (i 1).val
  let c7_i32 : BitVec 32 := 7#32
  let v2 : BitVec 32 := Scalar.minsi arg1 c7_i32
  let v3 : BitVec 32 := Scalar.select v1 c7_i32_0 v2
  let c2048_i32 : BitVec 32 := 2048#32
  let v4 : BitVec 32 := Scalar.muli v3 c2048_i32
  let v5 : BitVec 32 := v4
  let v125 : BitVec 32 := Scalar.addi v5 c0_i32_32
  let v128 : Index := Scalar.indexCast v125
  ![0, v128.toNat]
def k0_off6 (i : grid0.Coords) (c0_i32_32 : BitVec 32) : Fin 3 → Nat :=
  let arg0 : BitVec 32 := BitVec.ofNat 32 (i 0).val
  let c2_i32 : BitVec 32 := 2#32
  let v0 : BitVec 32 := Scalar.remsi arg0 c2_i32
  let c0_i32_33 : BitVec 32 := 0#32
  let c24_i32 : BitVec 32 := 24#32
  let v1 : BitVec 1 := Scalar.cmpi .eq arg0 c24_i32
  let c7_i32_0 : BitVec 32 := 7#32
  let arg1 : BitVec 32 := BitVec.ofNat 32 (i 1).val
  let c7_i32 : BitVec 32 := 7#32
  let v2 : BitVec 32 := Scalar.minsi arg1 c7_i32
  let v3 : BitVec 32 := Scalar.select v1 c7_i32_0 v2
  let c2048_i32 : BitVec 32 := 2048#32
  let v4 : BitVec 32 := Scalar.muli v3 c2048_i32
  let v5 : BitVec 32 := v4
  let v125 : BitVec 32 := Scalar.addi v5 c0_i32_32
  let v128 : Index := Scalar.indexCast v125
  ![v0.toNat, 0, v128.toNat]
def k0_off7 (i : grid0.Coords) (c0_i32_559 : BitVec 32) : Fin 2 → Nat :=
  let arg1 : BitVec 32 := BitVec.ofNat 32 (i 1).val
  let c4_i32_558 : BitVec 32 := 4#32
  let v1700 : BitVec 32 := Scalar.muli arg1 c4_i32_558
  let v1701 : BitVec 32 := Scalar.addi v1700 c0_i32_559
  let v1702 : Index := Scalar.indexCast v1701
  let c0_560 : Index := 0#32
  ![v1702.toNat, 0]
def k0_off8 (i : grid0.Coords) (c0_i32_579 : BitVec 32) : Fin 2 → Nat :=
  let arg1 : BitVec 32 := BitVec.ofNat 32 (i 1).val
  let c4_i32_578 : BitVec 32 := 4#32
  let v1737 : BitVec 32 := Scalar.muli arg1 c4_i32_578
  let v1738 : BitVec 32 := Scalar.addi v1737 c0_i32_579
  let v1739 : Index := Scalar.indexCast v1738
  let c1 : Index := 1#32
  ![v1739.toNat, 1]
def k0_off9 (i : grid0.Coords) (c0_i32_598 : BitVec 32) : Fin 2 → Nat :=
  let arg1 : BitVec 32 := BitVec.ofNat 32 (i 1).val
  let c4_i32_597 : BitVec 32 := 4#32
  let v1774 : BitVec 32 := Scalar.muli arg1 c4_i32_597
  let v1775 : BitVec 32 := Scalar.addi v1774 c0_i32_598
  let v1776 : Index := Scalar.indexCast v1775
  let c2 : Index := 2#32
  ![v1776.toNat, 2]
def k0_off10 (i : grid0.Coords) (c0_i32_617 : BitVec 32) : Fin 2 → Nat :=
  let arg1 : BitVec 32 := BitVec.ofNat 32 (i 1).val
  let c4_i32_616 : BitVec 32 := 4#32
  let v1811 : BitVec 32 := Scalar.muli arg1 c4_i32_616
  let v1812 : BitVec 32 := Scalar.addi v1811 c0_i32_617
  let v1813 : Index := Scalar.indexCast v1812
  let c3 : Index := 3#32
  ![v1813.toNat, 3]
def k0_off11 (i : grid0.Coords) (c0_i32_636 : BitVec 32) : Fin 2 → Nat :=
  let arg1 : BitVec 32 := BitVec.ofNat 32 (i 1).val
  let c4_i32_635 : BitVec 32 := 4#32
  let v1848 : BitVec 32 := Scalar.muli arg1 c4_i32_635
  let v1849 : BitVec 32 := Scalar.addi v1848 c0_i32_636
  let v1850 : Index := Scalar.indexCast v1849
  let c4 : Index := 4#32
  ![v1850.toNat, 4]
def k0_off12 (i : grid0.Coords) (c0_i32_655 : BitVec 32) : Fin 2 → Nat :=
  let arg1 : BitVec 32 := BitVec.ofNat 32 (i 1).val
  let c4_i32_654 : BitVec 32 := 4#32
  let v1885 : BitVec 32 := Scalar.muli arg1 c4_i32_654
  let v1886 : BitVec 32 := Scalar.addi v1885 c0_i32_655
  let v1887 : Index := Scalar.indexCast v1886
  let c5 : Index := 5#32
  ![v1887.toNat, 5]
def k0_off13 (i : grid0.Coords) (c0_i32_674 : BitVec 32) : Fin 2 → Nat :=
  let arg1 : BitVec 32 := BitVec.ofNat 32 (i 1).val
  let c4_i32_673 : BitVec 32 := 4#32
  let v1922 : BitVec 32 := Scalar.muli arg1 c4_i32_673
  let v1923 : BitVec 32 := Scalar.addi v1922 c0_i32_674
  let v1924 : Index := Scalar.indexCast v1923
  let c6 : Index := 6#32
  ![v1924.toNat, 6]
def k0_off14 (i : grid0.Coords) (c0_i32_693 : BitVec 32) : Fin 2 → Nat :=
  let arg1 : BitVec 32 := BitVec.ofNat 32 (i 1).val
  let c4_i32_692 : BitVec 32 := 4#32
  let v1959 : BitVec 32 := Scalar.muli arg1 c4_i32_692
  let v1960 : BitVec 32 := Scalar.addi v1959 c0_i32_693
  let v1961 : Index := Scalar.indexCast v1960
  let c7 : Index := 7#32
  ![v1961.toNat, 7]
def k0_off15 (i : grid0.Coords) (c0_i32_712 : BitVec 32) : Fin 2 → Nat :=
  let arg1 : BitVec 32 := BitVec.ofNat 32 (i 1).val
  let c4_i32_711 : BitVec 32 := 4#32
  let v1996 : BitVec 32 := Scalar.muli arg1 c4_i32_711
  let v1997 : BitVec 32 := Scalar.addi v1996 c0_i32_712
  let v1998 : Index := Scalar.indexCast v1997
  let c8 : Index := 8#32
  ![v1998.toNat, 8]
def k0_off16 (i : grid0.Coords) (c0_i32_731 : BitVec 32) : Fin 2 → Nat :=
  let arg1 : BitVec 32 := BitVec.ofNat 32 (i 1).val
  let c4_i32_730 : BitVec 32 := 4#32
  let v2033 : BitVec 32 := Scalar.muli arg1 c4_i32_730
  let v2034 : BitVec 32 := Scalar.addi v2033 c0_i32_731
  let v2035 : Index := Scalar.indexCast v2034
  let c9 : Index := 9#32
  ![v2035.toNat, 9]
def k0_off17 (i : grid0.Coords) (c0_i32_750 : BitVec 32) : Fin 2 → Nat :=
  let arg1 : BitVec 32 := BitVec.ofNat 32 (i 1).val
  let c4_i32_749 : BitVec 32 := 4#32
  let v2070 : BitVec 32 := Scalar.muli arg1 c4_i32_749
  let v2071 : BitVec 32 := Scalar.addi v2070 c0_i32_750
  let v2072 : Index := Scalar.indexCast v2071
  let c10 : Index := 10#32
  ![v2072.toNat, 10]
def k0_off18 (i : grid0.Coords) (c0_i32_769 : BitVec 32) : Fin 2 → Nat :=
  let arg1 : BitVec 32 := BitVec.ofNat 32 (i 1).val
  let c4_i32_768 : BitVec 32 := 4#32
  let v2107 : BitVec 32 := Scalar.muli arg1 c4_i32_768
  let v2108 : BitVec 32 := Scalar.addi v2107 c0_i32_769
  let v2109 : Index := Scalar.indexCast v2108
  let c11 : Index := 11#32
  ![v2109.toNat, 11]
def k0_off19 (i : grid0.Coords) (c0_i32_788 : BitVec 32) : Fin 2 → Nat :=
  let arg1 : BitVec 32 := BitVec.ofNat 32 (i 1).val
  let c4_i32_787 : BitVec 32 := 4#32
  let v2144 : BitVec 32 := Scalar.muli arg1 c4_i32_787
  let v2145 : BitVec 32 := Scalar.addi v2144 c0_i32_788
  let v2146 : Index := Scalar.indexCast v2145
  let c12 : Index := 12#32
  ![v2146.toNat, 12]
def k0_off20 (i : grid0.Coords) (c0_i32_807 : BitVec 32) : Fin 2 → Nat :=
  let arg1 : BitVec 32 := BitVec.ofNat 32 (i 1).val
  let c4_i32_806 : BitVec 32 := 4#32
  let v2181 : BitVec 32 := Scalar.muli arg1 c4_i32_806
  let v2182 : BitVec 32 := Scalar.addi v2181 c0_i32_807
  let v2183 : Index := Scalar.indexCast v2182
  let c13 : Index := 13#32
  ![v2183.toNat, 13]
def k0_off21 (i : grid0.Coords) (c0_i32_826 : BitVec 32) : Fin 2 → Nat :=
  let arg1 : BitVec 32 := BitVec.ofNat 32 (i 1).val
  let c4_i32_825 : BitVec 32 := 4#32
  let v2218 : BitVec 32 := Scalar.muli arg1 c4_i32_825
  let v2219 : BitVec 32 := Scalar.addi v2218 c0_i32_826
  let v2220 : Index := Scalar.indexCast v2219
  let c14 : Index := 14#32
  ![v2220.toNat, 14]
def k0_off22 (i : grid0.Coords) (c0_i32_845 : BitVec 32) : Fin 2 → Nat :=
  let arg1 : BitVec 32 := BitVec.ofNat 32 (i 1).val
  let c4_i32_844 : BitVec 32 := 4#32
  let v2255 : BitVec 32 := Scalar.muli arg1 c4_i32_844
  let v2256 : BitVec 32 := Scalar.addi v2255 c0_i32_845
  let v2257 : Index := Scalar.indexCast v2256
  let c15 : Index := 15#32
  ![v2257.toNat, 15]
def k0_off23 (i : grid0.Coords) : Fin 3 → Nat :=
  let c1_i32_555 : BitVec 32 := 1#32
  let arg0 : BitVec 32 := BitVec.ofNat 32 (i 0).val
  let c2_i32 : BitVec 32 := 2#32
  let v0 : BitVec 32 := Scalar.remsi arg0 c2_i32
  let v1697 : BitVec 32 := Scalar.subi c1_i32_555 v0
  let c0_i32_861 : BitVec 32 := 0#32
  let c0_i32_862 : BitVec 32 := 0#32
  ![v1697.toNat, 0, 0]
def k0_off24 (i : grid0.Coords) (c0_i32_870 : BitVec 32) : Fin 2 → Nat :=
  let arg1 : BitVec 32 := BitVec.ofNat 32 (i 1).val
  let c4_i32_869 : BitVec 32 := 4#32
  let v2300 : BitVec 32 := Scalar.muli arg1 c4_i32_869
  let v2301 : BitVec 32 := Scalar.addi v2300 c0_i32_870
  let v2302 : Index := Scalar.indexCast v2301
  let c16 : Index := 16#32
  ![v2302.toNat, 16]
def k0_off25 (i : grid0.Coords) (c0_i32_888 : BitVec 32) : Fin 2 → Nat :=
  let arg1 : BitVec 32 := BitVec.ofNat 32 (i 1).val
  let c4_i32_887 : BitVec 32 := 4#32
  let v2337 : BitVec 32 := Scalar.muli arg1 c4_i32_887
  let v2338 : BitVec 32 := Scalar.addi v2337 c0_i32_888
  let v2339 : Index := Scalar.indexCast v2338
  let c17 : Index := 17#32
  ![v2339.toNat, 17]
def k0_off26 (i : grid0.Coords) (c0_i32_906 : BitVec 32) : Fin 2 → Nat :=
  let arg1 : BitVec 32 := BitVec.ofNat 32 (i 1).val
  let c4_i32_905 : BitVec 32 := 4#32
  let v2374 : BitVec 32 := Scalar.muli arg1 c4_i32_905
  let v2375 : BitVec 32 := Scalar.addi v2374 c0_i32_906
  let v2376 : Index := Scalar.indexCast v2375
  let c18 : Index := 18#32
  ![v2376.toNat, 18]
def k0_off27 (i : grid0.Coords) (c0_i32_924 : BitVec 32) : Fin 2 → Nat :=
  let arg1 : BitVec 32 := BitVec.ofNat 32 (i 1).val
  let c4_i32_923 : BitVec 32 := 4#32
  let v2411 : BitVec 32 := Scalar.muli arg1 c4_i32_923
  let v2412 : BitVec 32 := Scalar.addi v2411 c0_i32_924
  let v2413 : Index := Scalar.indexCast v2412
  let c19 : Index := 19#32
  ![v2413.toNat, 19]
def k0_off28 (i : grid0.Coords) (c0_i32_942 : BitVec 32) : Fin 2 → Nat :=
  let arg1 : BitVec 32 := BitVec.ofNat 32 (i 1).val
  let c4_i32_941 : BitVec 32 := 4#32
  let v2448 : BitVec 32 := Scalar.muli arg1 c4_i32_941
  let v2449 : BitVec 32 := Scalar.addi v2448 c0_i32_942
  let v2450 : Index := Scalar.indexCast v2449
  let c20 : Index := 20#32
  ![v2450.toNat, 20]
def k0_off29 (i : grid0.Coords) (c0_i32_960 : BitVec 32) : Fin 2 → Nat :=
  let arg1 : BitVec 32 := BitVec.ofNat 32 (i 1).val
  let c4_i32_959 : BitVec 32 := 4#32
  let v2485 : BitVec 32 := Scalar.muli arg1 c4_i32_959
  let v2486 : BitVec 32 := Scalar.addi v2485 c0_i32_960
  let v2487 : Index := Scalar.indexCast v2486
  let c21 : Index := 21#32
  ![v2487.toNat, 21]
def k0_off30 (i : grid0.Coords) (c0_i32_978 : BitVec 32) : Fin 2 → Nat :=
  let arg1 : BitVec 32 := BitVec.ofNat 32 (i 1).val
  let c4_i32_977 : BitVec 32 := 4#32
  let v2522 : BitVec 32 := Scalar.muli arg1 c4_i32_977
  let v2523 : BitVec 32 := Scalar.addi v2522 c0_i32_978
  let v2524 : Index := Scalar.indexCast v2523
  let c22 : Index := 22#32
  ![v2524.toNat, 22]
def k0_off31 (i : grid0.Coords) (c0_i32_996 : BitVec 32) : Fin 2 → Nat :=
  let arg1 : BitVec 32 := BitVec.ofNat 32 (i 1).val
  let c4_i32_995 : BitVec 32 := 4#32
  let v2559 : BitVec 32 := Scalar.muli arg1 c4_i32_995
  let v2560 : BitVec 32 := Scalar.addi v2559 c0_i32_996
  let v2561 : Index := Scalar.indexCast v2560
  let c23 : Index := 23#32
  ![v2561.toNat, 23]
def k0_off32 (i : grid0.Coords) (c0_i32_1014 : BitVec 32) : Fin 2 → Nat :=
  let arg1 : BitVec 32 := BitVec.ofNat 32 (i 1).val
  let c4_i32_1013 : BitVec 32 := 4#32
  let v2596 : BitVec 32 := Scalar.muli arg1 c4_i32_1013
  let v2597 : BitVec 32 := Scalar.addi v2596 c0_i32_1014
  let v2598 : Index := Scalar.indexCast v2597
  let c24 : Index := 24#32
  ![v2598.toNat, 24]
def k0_off33 (i : grid0.Coords) (c0_i32_1032 : BitVec 32) : Fin 2 → Nat :=
  let arg1 : BitVec 32 := BitVec.ofNat 32 (i 1).val
  let c4_i32_1031 : BitVec 32 := 4#32
  let v2633 : BitVec 32 := Scalar.muli arg1 c4_i32_1031
  let v2634 : BitVec 32 := Scalar.addi v2633 c0_i32_1032
  let v2635 : Index := Scalar.indexCast v2634
  let c25 : Index := 25#32
  ![v2635.toNat, 25]
def k0_off34 (i : grid0.Coords) (c0_i32_1050 : BitVec 32) : Fin 2 → Nat :=
  let arg1 : BitVec 32 := BitVec.ofNat 32 (i 1).val
  let c4_i32_1049 : BitVec 32 := 4#32
  let v2670 : BitVec 32 := Scalar.muli arg1 c4_i32_1049
  let v2671 : BitVec 32 := Scalar.addi v2670 c0_i32_1050
  let v2672 : Index := Scalar.indexCast v2671
  let c26 : Index := 26#32
  ![v2672.toNat, 26]
def k0_off35 (i : grid0.Coords) (c0_i32_1068 : BitVec 32) : Fin 2 → Nat :=
  let arg1 : BitVec 32 := BitVec.ofNat 32 (i 1).val
  let c4_i32_1067 : BitVec 32 := 4#32
  let v2707 : BitVec 32 := Scalar.muli arg1 c4_i32_1067
  let v2708 : BitVec 32 := Scalar.addi v2707 c0_i32_1068
  let v2709 : Index := Scalar.indexCast v2708
  let c27 : Index := 27#32
  ![v2709.toNat, 27]
def k0_off36 (i : grid0.Coords) (c0_i32_1086 : BitVec 32) : Fin 2 → Nat :=
  let arg1 : BitVec 32 := BitVec.ofNat 32 (i 1).val
  let c4_i32_1085 : BitVec 32 := 4#32
  let v2744 : BitVec 32 := Scalar.muli arg1 c4_i32_1085
  let v2745 : BitVec 32 := Scalar.addi v2744 c0_i32_1086
  let v2746 : Index := Scalar.indexCast v2745
  let c28 : Index := 28#32
  ![v2746.toNat, 28]
def k0_off37 (i : grid0.Coords) (c0_i32_1104 : BitVec 32) : Fin 2 → Nat :=
  let arg1 : BitVec 32 := BitVec.ofNat 32 (i 1).val
  let c4_i32_1103 : BitVec 32 := 4#32
  let v2781 : BitVec 32 := Scalar.muli arg1 c4_i32_1103
  let v2782 : BitVec 32 := Scalar.addi v2781 c0_i32_1104
  let v2783 : Index := Scalar.indexCast v2782
  let c29 : Index := 29#32
  ![v2783.toNat, 29]
def k0_off38 (i : grid0.Coords) (c0_i32_1122 : BitVec 32) : Fin 2 → Nat :=
  let arg1 : BitVec 32 := BitVec.ofNat 32 (i 1).val
  let c4_i32_1121 : BitVec 32 := 4#32
  let v2818 : BitVec 32 := Scalar.muli arg1 c4_i32_1121
  let v2819 : BitVec 32 := Scalar.addi v2818 c0_i32_1122
  let v2820 : Index := Scalar.indexCast v2819
  let c30 : Index := 30#32
  ![v2820.toNat, 30]
def k0_off39 (i : grid0.Coords) (c0_i32_1140 : BitVec 32) : Fin 2 → Nat :=
  let arg1 : BitVec 32 := BitVec.ofNat 32 (i 1).val
  let c4_i32_1139 : BitVec 32 := 4#32
  let v2855 : BitVec 32 := Scalar.muli arg1 c4_i32_1139
  let v2856 : BitVec 32 := Scalar.addi v2855 c0_i32_1140
  let v2857 : Index := Scalar.indexCast v2856
  let c31 : Index := 31#32
  ![v2857.toNat, 31]
def k0_off40 (i : grid0.Coords) (c0_i32_1167 : BitVec 32) : Fin 2 → Nat :=
  let arg1 : BitVec 32 := BitVec.ofNat 32 (i 1).val
  let c4_i32_1166 : BitVec 32 := 4#32
  let v2902 : BitVec 32 := Scalar.muli arg1 c4_i32_1166
  let v2903 : BitVec 32 := Scalar.addi v2902 c0_i32_1167
  let v2904 : Index := Scalar.indexCast v2903
  let c32 : Index := 32#32
  ![v2904.toNat, 32]
def k0_off41 (i : grid0.Coords) (c0_i32_1185 : BitVec 32) : Fin 2 → Nat :=
  let arg1 : BitVec 32 := BitVec.ofNat 32 (i 1).val
  let c4_i32_1184 : BitVec 32 := 4#32
  let v2939 : BitVec 32 := Scalar.muli arg1 c4_i32_1184
  let v2940 : BitVec 32 := Scalar.addi v2939 c0_i32_1185
  let v2941 : Index := Scalar.indexCast v2940
  let c33 : Index := 33#32
  ![v2941.toNat, 33]
def k0_off42 (i : grid0.Coords) (c0_i32_1203 : BitVec 32) : Fin 2 → Nat :=
  let arg1 : BitVec 32 := BitVec.ofNat 32 (i 1).val
  let c4_i32_1202 : BitVec 32 := 4#32
  let v2976 : BitVec 32 := Scalar.muli arg1 c4_i32_1202
  let v2977 : BitVec 32 := Scalar.addi v2976 c0_i32_1203
  let v2978 : Index := Scalar.indexCast v2977
  let c34 : Index := 34#32
  ![v2978.toNat, 34]
def k0_off43 (i : grid0.Coords) (c0_i32_1221 : BitVec 32) : Fin 2 → Nat :=
  let arg1 : BitVec 32 := BitVec.ofNat 32 (i 1).val
  let c4_i32_1220 : BitVec 32 := 4#32
  let v3013 : BitVec 32 := Scalar.muli arg1 c4_i32_1220
  let v3014 : BitVec 32 := Scalar.addi v3013 c0_i32_1221
  let v3015 : Index := Scalar.indexCast v3014
  let c35 : Index := 35#32
  ![v3015.toNat, 35]
def k0_off44 (i : grid0.Coords) (c0_i32_1239 : BitVec 32) : Fin 2 → Nat :=
  let arg1 : BitVec 32 := BitVec.ofNat 32 (i 1).val
  let c4_i32_1238 : BitVec 32 := 4#32
  let v3050 : BitVec 32 := Scalar.muli arg1 c4_i32_1238
  let v3051 : BitVec 32 := Scalar.addi v3050 c0_i32_1239
  let v3052 : Index := Scalar.indexCast v3051
  let c36 : Index := 36#32
  ![v3052.toNat, 36]
def k0_off45 (i : grid0.Coords) (c0_i32_1257 : BitVec 32) : Fin 2 → Nat :=
  let arg1 : BitVec 32 := BitVec.ofNat 32 (i 1).val
  let c4_i32_1256 : BitVec 32 := 4#32
  let v3087 : BitVec 32 := Scalar.muli arg1 c4_i32_1256
  let v3088 : BitVec 32 := Scalar.addi v3087 c0_i32_1257
  let v3089 : Index := Scalar.indexCast v3088
  let c37 : Index := 37#32
  ![v3089.toNat, 37]
def k0_off46 (i : grid0.Coords) (c0_i32_1275 : BitVec 32) : Fin 2 → Nat :=
  let arg1 : BitVec 32 := BitVec.ofNat 32 (i 1).val
  let c4_i32_1274 : BitVec 32 := 4#32
  let v3124 : BitVec 32 := Scalar.muli arg1 c4_i32_1274
  let v3125 : BitVec 32 := Scalar.addi v3124 c0_i32_1275
  let v3126 : Index := Scalar.indexCast v3125
  let c38 : Index := 38#32
  ![v3126.toNat, 38]
def k0_off47 (i : grid0.Coords) (c0_i32_1293 : BitVec 32) : Fin 2 → Nat :=
  let arg1 : BitVec 32 := BitVec.ofNat 32 (i 1).val
  let c4_i32_1292 : BitVec 32 := 4#32
  let v3161 : BitVec 32 := Scalar.muli arg1 c4_i32_1292
  let v3162 : BitVec 32 := Scalar.addi v3161 c0_i32_1293
  let v3163 : Index := Scalar.indexCast v3162
  let c39 : Index := 39#32
  ![v3163.toNat, 39]
def k0_off48 (i : grid0.Coords) (c0_i32_1311 : BitVec 32) : Fin 2 → Nat :=
  let arg1 : BitVec 32 := BitVec.ofNat 32 (i 1).val
  let c4_i32_1310 : BitVec 32 := 4#32
  let v3198 : BitVec 32 := Scalar.muli arg1 c4_i32_1310
  let v3199 : BitVec 32 := Scalar.addi v3198 c0_i32_1311
  let v3200 : Index := Scalar.indexCast v3199
  let c40 : Index := 40#32
  ![v3200.toNat, 40]
def k0_off49 (i : grid0.Coords) (c0_i32_1329 : BitVec 32) : Fin 2 → Nat :=
  let arg1 : BitVec 32 := BitVec.ofNat 32 (i 1).val
  let c4_i32_1328 : BitVec 32 := 4#32
  let v3235 : BitVec 32 := Scalar.muli arg1 c4_i32_1328
  let v3236 : BitVec 32 := Scalar.addi v3235 c0_i32_1329
  let v3237 : Index := Scalar.indexCast v3236
  let c41 : Index := 41#32
  ![v3237.toNat, 41]
def k0_off50 (i : grid0.Coords) (c0_i32_1347 : BitVec 32) : Fin 2 → Nat :=
  let arg1 : BitVec 32 := BitVec.ofNat 32 (i 1).val
  let c4_i32_1346 : BitVec 32 := 4#32
  let v3272 : BitVec 32 := Scalar.muli arg1 c4_i32_1346
  let v3273 : BitVec 32 := Scalar.addi v3272 c0_i32_1347
  let v3274 : Index := Scalar.indexCast v3273
  let c42 : Index := 42#32
  ![v3274.toNat, 42]
def k0_off51 (i : grid0.Coords) (c0_i32_1365 : BitVec 32) : Fin 2 → Nat :=
  let arg1 : BitVec 32 := BitVec.ofNat 32 (i 1).val
  let c4_i32_1364 : BitVec 32 := 4#32
  let v3309 : BitVec 32 := Scalar.muli arg1 c4_i32_1364
  let v3310 : BitVec 32 := Scalar.addi v3309 c0_i32_1365
  let v3311 : Index := Scalar.indexCast v3310
  let c43 : Index := 43#32
  ![v3311.toNat, 43]
def k0_off52 (i : grid0.Coords) (c0_i32_1383 : BitVec 32) : Fin 2 → Nat :=
  let arg1 : BitVec 32 := BitVec.ofNat 32 (i 1).val
  let c4_i32_1382 : BitVec 32 := 4#32
  let v3346 : BitVec 32 := Scalar.muli arg1 c4_i32_1382
  let v3347 : BitVec 32 := Scalar.addi v3346 c0_i32_1383
  let v3348 : Index := Scalar.indexCast v3347
  let c44 : Index := 44#32
  ![v3348.toNat, 44]
def k0_off53 (i : grid0.Coords) (c0_i32_1401 : BitVec 32) : Fin 2 → Nat :=
  let arg1 : BitVec 32 := BitVec.ofNat 32 (i 1).val
  let c4_i32_1400 : BitVec 32 := 4#32
  let v3383 : BitVec 32 := Scalar.muli arg1 c4_i32_1400
  let v3384 : BitVec 32 := Scalar.addi v3383 c0_i32_1401
  let v3385 : Index := Scalar.indexCast v3384
  let c45 : Index := 45#32
  ![v3385.toNat, 45]
def k0_off54 (i : grid0.Coords) (c0_i32_1419 : BitVec 32) : Fin 2 → Nat :=
  let arg1 : BitVec 32 := BitVec.ofNat 32 (i 1).val
  let c4_i32_1418 : BitVec 32 := 4#32
  let v3420 : BitVec 32 := Scalar.muli arg1 c4_i32_1418
  let v3421 : BitVec 32 := Scalar.addi v3420 c0_i32_1419
  let v3422 : Index := Scalar.indexCast v3421
  let c46 : Index := 46#32
  ![v3422.toNat, 46]
def k0_off55 (i : grid0.Coords) (c0_i32_1437 : BitVec 32) : Fin 2 → Nat :=
  let arg1 : BitVec 32 := BitVec.ofNat 32 (i 1).val
  let c4_i32_1436 : BitVec 32 := 4#32
  let v3457 : BitVec 32 := Scalar.muli arg1 c4_i32_1436
  let v3458 : BitVec 32 := Scalar.addi v3457 c0_i32_1437
  let v3459 : Index := Scalar.indexCast v3458
  let c47 : Index := 47#32
  ![v3459.toNat, 47]
def k0_off56 (i : grid0.Coords) (c0_i32_1464 : BitVec 32) : Fin 2 → Nat :=
  let arg1 : BitVec 32 := BitVec.ofNat 32 (i 1).val
  let c4_i32_1463 : BitVec 32 := 4#32
  let v3504 : BitVec 32 := Scalar.muli arg1 c4_i32_1463
  let v3505 : BitVec 32 := Scalar.addi v3504 c0_i32_1464
  let v3506 : Index := Scalar.indexCast v3505
  let c48 : Index := 48#32
  ![v3506.toNat, 48]
def k0_off57 (i : grid0.Coords) (c0_i32_1482 : BitVec 32) : Fin 2 → Nat :=
  let arg1 : BitVec 32 := BitVec.ofNat 32 (i 1).val
  let c4_i32_1481 : BitVec 32 := 4#32
  let v3541 : BitVec 32 := Scalar.muli arg1 c4_i32_1481
  let v3542 : BitVec 32 := Scalar.addi v3541 c0_i32_1482
  let v3543 : Index := Scalar.indexCast v3542
  let c49 : Index := 49#32
  ![v3543.toNat, 49]
def k0_off58 (i : grid0.Coords) (c0_i32_1500 : BitVec 32) : Fin 2 → Nat :=
  let arg1 : BitVec 32 := BitVec.ofNat 32 (i 1).val
  let c4_i32_1499 : BitVec 32 := 4#32
  let v3578 : BitVec 32 := Scalar.muli arg1 c4_i32_1499
  let v3579 : BitVec 32 := Scalar.addi v3578 c0_i32_1500
  let v3580 : Index := Scalar.indexCast v3579
  let c50 : Index := 50#32
  ![v3580.toNat, 50]
def k0_off59 (i : grid0.Coords) (c0_i32_1518 : BitVec 32) : Fin 2 → Nat :=
  let arg1 : BitVec 32 := BitVec.ofNat 32 (i 1).val
  let c4_i32_1517 : BitVec 32 := 4#32
  let v3615 : BitVec 32 := Scalar.muli arg1 c4_i32_1517
  let v3616 : BitVec 32 := Scalar.addi v3615 c0_i32_1518
  let v3617 : Index := Scalar.indexCast v3616
  let c51 : Index := 51#32
  ![v3617.toNat, 51]
def k0_off60 (i : grid0.Coords) (c0_i32_1536 : BitVec 32) : Fin 2 → Nat :=
  let arg1 : BitVec 32 := BitVec.ofNat 32 (i 1).val
  let c4_i32_1535 : BitVec 32 := 4#32
  let v3652 : BitVec 32 := Scalar.muli arg1 c4_i32_1535
  let v3653 : BitVec 32 := Scalar.addi v3652 c0_i32_1536
  let v3654 : Index := Scalar.indexCast v3653
  let c52 : Index := 52#32
  ![v3654.toNat, 52]
def k0_off61 (i : grid0.Coords) (c0_i32_1554 : BitVec 32) : Fin 2 → Nat :=
  let arg1 : BitVec 32 := BitVec.ofNat 32 (i 1).val
  let c4_i32_1553 : BitVec 32 := 4#32
  let v3689 : BitVec 32 := Scalar.muli arg1 c4_i32_1553
  let v3690 : BitVec 32 := Scalar.addi v3689 c0_i32_1554
  let v3691 : Index := Scalar.indexCast v3690
  let c53 : Index := 53#32
  ![v3691.toNat, 53]
def k0_off62 (i : grid0.Coords) (c0_i32_1572 : BitVec 32) : Fin 2 → Nat :=
  let arg1 : BitVec 32 := BitVec.ofNat 32 (i 1).val
  let c4_i32_1571 : BitVec 32 := 4#32
  let v3726 : BitVec 32 := Scalar.muli arg1 c4_i32_1571
  let v3727 : BitVec 32 := Scalar.addi v3726 c0_i32_1572
  let v3728 : Index := Scalar.indexCast v3727
  let c54 : Index := 54#32
  ![v3728.toNat, 54]
def k0_off63 (i : grid0.Coords) (c0_i32_1590 : BitVec 32) : Fin 2 → Nat :=
  let arg1 : BitVec 32 := BitVec.ofNat 32 (i 1).val
  let c4_i32_1589 : BitVec 32 := 4#32
  let v3763 : BitVec 32 := Scalar.muli arg1 c4_i32_1589
  let v3764 : BitVec 32 := Scalar.addi v3763 c0_i32_1590
  let v3765 : Index := Scalar.indexCast v3764
  let c55 : Index := 55#32
  ![v3765.toNat, 55]
def k0_off64 (i : grid0.Coords) (c0_i32_1608 : BitVec 32) : Fin 2 → Nat :=
  let arg1 : BitVec 32 := BitVec.ofNat 32 (i 1).val
  let c4_i32_1607 : BitVec 32 := 4#32
  let v3800 : BitVec 32 := Scalar.muli arg1 c4_i32_1607
  let v3801 : BitVec 32 := Scalar.addi v3800 c0_i32_1608
  let v3802 : Index := Scalar.indexCast v3801
  let c56 : Index := 56#32
  ![v3802.toNat, 56]
def k0_off65 (i : grid0.Coords) (c0_i32_1626 : BitVec 32) : Fin 2 → Nat :=
  let arg1 : BitVec 32 := BitVec.ofNat 32 (i 1).val
  let c4_i32_1625 : BitVec 32 := 4#32
  let v3837 : BitVec 32 := Scalar.muli arg1 c4_i32_1625
  let v3838 : BitVec 32 := Scalar.addi v3837 c0_i32_1626
  let v3839 : Index := Scalar.indexCast v3838
  let c57 : Index := 57#32
  ![v3839.toNat, 57]
def k0_off66 (i : grid0.Coords) (c0_i32_1644 : BitVec 32) : Fin 2 → Nat :=
  let arg1 : BitVec 32 := BitVec.ofNat 32 (i 1).val
  let c4_i32_1643 : BitVec 32 := 4#32
  let v3874 : BitVec 32 := Scalar.muli arg1 c4_i32_1643
  let v3875 : BitVec 32 := Scalar.addi v3874 c0_i32_1644
  let v3876 : Index := Scalar.indexCast v3875
  let c58 : Index := 58#32
  ![v3876.toNat, 58]
def k0_off67 (i : grid0.Coords) (c0_i32_1662 : BitVec 32) : Fin 2 → Nat :=
  let arg1 : BitVec 32 := BitVec.ofNat 32 (i 1).val
  let c4_i32_1661 : BitVec 32 := 4#32
  let v3911 : BitVec 32 := Scalar.muli arg1 c4_i32_1661
  let v3912 : BitVec 32 := Scalar.addi v3911 c0_i32_1662
  let v3913 : Index := Scalar.indexCast v3912
  let c59 : Index := 59#32
  ![v3913.toNat, 59]
def k0_off68 (i : grid0.Coords) (c0_i32_1680 : BitVec 32) : Fin 2 → Nat :=
  let arg1 : BitVec 32 := BitVec.ofNat 32 (i 1).val
  let c4_i32_1679 : BitVec 32 := 4#32
  let v3948 : BitVec 32 := Scalar.muli arg1 c4_i32_1679
  let v3949 : BitVec 32 := Scalar.addi v3948 c0_i32_1680
  let v3950 : Index := Scalar.indexCast v3949
  let c60 : Index := 60#32
  ![v3950.toNat, 60]
def k0_off69 (i : grid0.Coords) (c0_i32_1698 : BitVec 32) : Fin 2 → Nat :=
  let arg1 : BitVec 32 := BitVec.ofNat 32 (i 1).val
  let c4_i32_1697 : BitVec 32 := 4#32
  let v3985 : BitVec 32 := Scalar.muli arg1 c4_i32_1697
  let v3986 : BitVec 32 := Scalar.addi v3985 c0_i32_1698
  let v3987 : Index := Scalar.indexCast v3986
  let c61 : Index := 61#32
  ![v3987.toNat, 61]
def k0_off70 (i : grid0.Coords) (c0_i32_1716 : BitVec 32) : Fin 2 → Nat :=
  let arg1 : BitVec 32 := BitVec.ofNat 32 (i 1).val
  let c4_i32_1715 : BitVec 32 := 4#32
  let v4022 : BitVec 32 := Scalar.muli arg1 c4_i32_1715
  let v4023 : BitVec 32 := Scalar.addi v4022 c0_i32_1716
  let v4024 : Index := Scalar.indexCast v4023
  let c62 : Index := 62#32
  ![v4024.toNat, 62]
def k0_off71 (i : grid0.Coords) (c0_i32_1734 : BitVec 32) : Fin 2 → Nat :=
  let arg1 : BitVec 32 := BitVec.ofNat 32 (i 1).val
  let c4_i32_1733 : BitVec 32 := 4#32
  let v4059 : BitVec 32 := Scalar.muli arg1 c4_i32_1733
  let v4060 : BitVec 32 := Scalar.addi v4059 c0_i32_1734
  let v4061 : Index := Scalar.indexCast v4060
  let c63 : Index := 63#32
  ![v4061.toNat, 63]
def k0_off72 (i : grid0.Coords) (c0_i32_1761 : BitVec 32) : Fin 2 → Nat :=
  let arg1 : BitVec 32 := BitVec.ofNat 32 (i 1).val
  let c4_i32_1760 : BitVec 32 := 4#32
  let v4106 : BitVec 32 := Scalar.muli arg1 c4_i32_1760
  let v4107 : BitVec 32 := Scalar.addi v4106 c0_i32_1761
  let v4108 : Index := Scalar.indexCast v4107
  let c64 : Index := 64#32
  ![v4108.toNat, 64]
def k0_off73 (i : grid0.Coords) (c0_i32_1779 : BitVec 32) : Fin 2 → Nat :=
  let arg1 : BitVec 32 := BitVec.ofNat 32 (i 1).val
  let c4_i32_1778 : BitVec 32 := 4#32
  let v4143 : BitVec 32 := Scalar.muli arg1 c4_i32_1778
  let v4144 : BitVec 32 := Scalar.addi v4143 c0_i32_1779
  let v4145 : Index := Scalar.indexCast v4144
  let c65 : Index := 65#32
  ![v4145.toNat, 65]
def k0_off74 (i : grid0.Coords) (c0_i32_1797 : BitVec 32) : Fin 2 → Nat :=
  let arg1 : BitVec 32 := BitVec.ofNat 32 (i 1).val
  let c4_i32_1796 : BitVec 32 := 4#32
  let v4180 : BitVec 32 := Scalar.muli arg1 c4_i32_1796
  let v4181 : BitVec 32 := Scalar.addi v4180 c0_i32_1797
  let v4182 : Index := Scalar.indexCast v4181
  let c66 : Index := 66#32
  ![v4182.toNat, 66]
def k0_off75 (i : grid0.Coords) (c0_i32_1815 : BitVec 32) : Fin 2 → Nat :=
  let arg1 : BitVec 32 := BitVec.ofNat 32 (i 1).val
  let c4_i32_1814 : BitVec 32 := 4#32
  let v4217 : BitVec 32 := Scalar.muli arg1 c4_i32_1814
  let v4218 : BitVec 32 := Scalar.addi v4217 c0_i32_1815
  let v4219 : Index := Scalar.indexCast v4218
  let c67 : Index := 67#32
  ![v4219.toNat, 67]
def k0_off76 (i : grid0.Coords) (c0_i32_1833 : BitVec 32) : Fin 2 → Nat :=
  let arg1 : BitVec 32 := BitVec.ofNat 32 (i 1).val
  let c4_i32_1832 : BitVec 32 := 4#32
  let v4254 : BitVec 32 := Scalar.muli arg1 c4_i32_1832
  let v4255 : BitVec 32 := Scalar.addi v4254 c0_i32_1833
  let v4256 : Index := Scalar.indexCast v4255
  let c68 : Index := 68#32
  ![v4256.toNat, 68]
def k0_off77 (i : grid0.Coords) (c0_i32_1851 : BitVec 32) : Fin 2 → Nat :=
  let arg1 : BitVec 32 := BitVec.ofNat 32 (i 1).val
  let c4_i32_1850 : BitVec 32 := 4#32
  let v4291 : BitVec 32 := Scalar.muli arg1 c4_i32_1850
  let v4292 : BitVec 32 := Scalar.addi v4291 c0_i32_1851
  let v4293 : Index := Scalar.indexCast v4292
  let c69 : Index := 69#32
  ![v4293.toNat, 69]
def k0_off78 (i : grid0.Coords) (c0_i32_1869 : BitVec 32) : Fin 2 → Nat :=
  let arg1 : BitVec 32 := BitVec.ofNat 32 (i 1).val
  let c4_i32_1868 : BitVec 32 := 4#32
  let v4328 : BitVec 32 := Scalar.muli arg1 c4_i32_1868
  let v4329 : BitVec 32 := Scalar.addi v4328 c0_i32_1869
  let v4330 : Index := Scalar.indexCast v4329
  let c70 : Index := 70#32
  ![v4330.toNat, 70]
def k0_off79 (i : grid0.Coords) (c0_i32_1887 : BitVec 32) : Fin 2 → Nat :=
  let arg1 : BitVec 32 := BitVec.ofNat 32 (i 1).val
  let c4_i32_1886 : BitVec 32 := 4#32
  let v4365 : BitVec 32 := Scalar.muli arg1 c4_i32_1886
  let v4366 : BitVec 32 := Scalar.addi v4365 c0_i32_1887
  let v4367 : Index := Scalar.indexCast v4366
  let c71 : Index := 71#32
  ![v4367.toNat, 71]
def k0_off80 (i : grid0.Coords) (c0_i32_1905 : BitVec 32) : Fin 2 → Nat :=
  let arg1 : BitVec 32 := BitVec.ofNat 32 (i 1).val
  let c4_i32_1904 : BitVec 32 := 4#32
  let v4402 : BitVec 32 := Scalar.muli arg1 c4_i32_1904
  let v4403 : BitVec 32 := Scalar.addi v4402 c0_i32_1905
  let v4404 : Index := Scalar.indexCast v4403
  let c72 : Index := 72#32
  ![v4404.toNat, 72]
def k0_off81 (i : grid0.Coords) (c0_i32_1923 : BitVec 32) : Fin 2 → Nat :=
  let arg1 : BitVec 32 := BitVec.ofNat 32 (i 1).val
  let c4_i32_1922 : BitVec 32 := 4#32
  let v4439 : BitVec 32 := Scalar.muli arg1 c4_i32_1922
  let v4440 : BitVec 32 := Scalar.addi v4439 c0_i32_1923
  let v4441 : Index := Scalar.indexCast v4440
  let c73 : Index := 73#32
  ![v4441.toNat, 73]
def k0_off82 (i : grid0.Coords) (c0_i32_1941 : BitVec 32) : Fin 2 → Nat :=
  let arg1 : BitVec 32 := BitVec.ofNat 32 (i 1).val
  let c4_i32_1940 : BitVec 32 := 4#32
  let v4476 : BitVec 32 := Scalar.muli arg1 c4_i32_1940
  let v4477 : BitVec 32 := Scalar.addi v4476 c0_i32_1941
  let v4478 : Index := Scalar.indexCast v4477
  let c74 : Index := 74#32
  ![v4478.toNat, 74]
def k0_off83 (i : grid0.Coords) (c0_i32_1959 : BitVec 32) : Fin 2 → Nat :=
  let arg1 : BitVec 32 := BitVec.ofNat 32 (i 1).val
  let c4_i32_1958 : BitVec 32 := 4#32
  let v4513 : BitVec 32 := Scalar.muli arg1 c4_i32_1958
  let v4514 : BitVec 32 := Scalar.addi v4513 c0_i32_1959
  let v4515 : Index := Scalar.indexCast v4514
  let c75 : Index := 75#32
  ![v4515.toNat, 75]
def k0_off84 (i : grid0.Coords) (c0_i32_1977 : BitVec 32) : Fin 2 → Nat :=
  let arg1 : BitVec 32 := BitVec.ofNat 32 (i 1).val
  let c4_i32_1976 : BitVec 32 := 4#32
  let v4550 : BitVec 32 := Scalar.muli arg1 c4_i32_1976
  let v4551 : BitVec 32 := Scalar.addi v4550 c0_i32_1977
  let v4552 : Index := Scalar.indexCast v4551
  let c76 : Index := 76#32
  ![v4552.toNat, 76]
def k0_off85 (i : grid0.Coords) (c0_i32_1995 : BitVec 32) : Fin 2 → Nat :=
  let arg1 : BitVec 32 := BitVec.ofNat 32 (i 1).val
  let c4_i32_1994 : BitVec 32 := 4#32
  let v4587 : BitVec 32 := Scalar.muli arg1 c4_i32_1994
  let v4588 : BitVec 32 := Scalar.addi v4587 c0_i32_1995
  let v4589 : Index := Scalar.indexCast v4588
  let c77 : Index := 77#32
  ![v4589.toNat, 77]
def k0_off86 (i : grid0.Coords) (c0_i32_2013 : BitVec 32) : Fin 2 → Nat :=
  let arg1 : BitVec 32 := BitVec.ofNat 32 (i 1).val
  let c4_i32_2012 : BitVec 32 := 4#32
  let v4624 : BitVec 32 := Scalar.muli arg1 c4_i32_2012
  let v4625 : BitVec 32 := Scalar.addi v4624 c0_i32_2013
  let v4626 : Index := Scalar.indexCast v4625
  let c78 : Index := 78#32
  ![v4626.toNat, 78]
def k0_off87 (i : grid0.Coords) (c0_i32_2031 : BitVec 32) : Fin 2 → Nat :=
  let arg1 : BitVec 32 := BitVec.ofNat 32 (i 1).val
  let c4_i32_2030 : BitVec 32 := 4#32
  let v4661 : BitVec 32 := Scalar.muli arg1 c4_i32_2030
  let v4662 : BitVec 32 := Scalar.addi v4661 c0_i32_2031
  let v4663 : Index := Scalar.indexCast v4662
  let c79 : Index := 79#32
  ![v4663.toNat, 79]
def k0_off88 (i : grid0.Coords) (c0_i32_2058 : BitVec 32) : Fin 2 → Nat :=
  let arg1 : BitVec 32 := BitVec.ofNat 32 (i 1).val
  let c4_i32_2057 : BitVec 32 := 4#32
  let v4708 : BitVec 32 := Scalar.muli arg1 c4_i32_2057
  let v4709 : BitVec 32 := Scalar.addi v4708 c0_i32_2058
  let v4710 : Index := Scalar.indexCast v4709
  let c80 : Index := 80#32
  ![v4710.toNat, 80]
def k0_off89 (i : grid0.Coords) (c0_i32_2076 : BitVec 32) : Fin 2 → Nat :=
  let arg1 : BitVec 32 := BitVec.ofNat 32 (i 1).val
  let c4_i32_2075 : BitVec 32 := 4#32
  let v4745 : BitVec 32 := Scalar.muli arg1 c4_i32_2075
  let v4746 : BitVec 32 := Scalar.addi v4745 c0_i32_2076
  let v4747 : Index := Scalar.indexCast v4746
  let c81 : Index := 81#32
  ![v4747.toNat, 81]
def k0_off90 (i : grid0.Coords) (c0_i32_2094 : BitVec 32) : Fin 2 → Nat :=
  let arg1 : BitVec 32 := BitVec.ofNat 32 (i 1).val
  let c4_i32_2093 : BitVec 32 := 4#32
  let v4782 : BitVec 32 := Scalar.muli arg1 c4_i32_2093
  let v4783 : BitVec 32 := Scalar.addi v4782 c0_i32_2094
  let v4784 : Index := Scalar.indexCast v4783
  let c82 : Index := 82#32
  ![v4784.toNat, 82]
def k0_off91 (i : grid0.Coords) (c0_i32_2112 : BitVec 32) : Fin 2 → Nat :=
  let arg1 : BitVec 32 := BitVec.ofNat 32 (i 1).val
  let c4_i32_2111 : BitVec 32 := 4#32
  let v4819 : BitVec 32 := Scalar.muli arg1 c4_i32_2111
  let v4820 : BitVec 32 := Scalar.addi v4819 c0_i32_2112
  let v4821 : Index := Scalar.indexCast v4820
  let c83 : Index := 83#32
  ![v4821.toNat, 83]
def k0_off92 (i : grid0.Coords) (c0_i32_2130 : BitVec 32) : Fin 2 → Nat :=
  let arg1 : BitVec 32 := BitVec.ofNat 32 (i 1).val
  let c4_i32_2129 : BitVec 32 := 4#32
  let v4856 : BitVec 32 := Scalar.muli arg1 c4_i32_2129
  let v4857 : BitVec 32 := Scalar.addi v4856 c0_i32_2130
  let v4858 : Index := Scalar.indexCast v4857
  let c84 : Index := 84#32
  ![v4858.toNat, 84]
def k0_off93 (i : grid0.Coords) (c0_i32_2148 : BitVec 32) : Fin 2 → Nat :=
  let arg1 : BitVec 32 := BitVec.ofNat 32 (i 1).val
  let c4_i32_2147 : BitVec 32 := 4#32
  let v4893 : BitVec 32 := Scalar.muli arg1 c4_i32_2147
  let v4894 : BitVec 32 := Scalar.addi v4893 c0_i32_2148
  let v4895 : Index := Scalar.indexCast v4894
  let c85 : Index := 85#32
  ![v4895.toNat, 85]
def k0_off94 (i : grid0.Coords) (c0_i32_2166 : BitVec 32) : Fin 2 → Nat :=
  let arg1 : BitVec 32 := BitVec.ofNat 32 (i 1).val
  let c4_i32_2165 : BitVec 32 := 4#32
  let v4930 : BitVec 32 := Scalar.muli arg1 c4_i32_2165
  let v4931 : BitVec 32 := Scalar.addi v4930 c0_i32_2166
  let v4932 : Index := Scalar.indexCast v4931
  let c86 : Index := 86#32
  ![v4932.toNat, 86]
def k0_off95 (i : grid0.Coords) (c0_i32_2184 : BitVec 32) : Fin 2 → Nat :=
  let arg1 : BitVec 32 := BitVec.ofNat 32 (i 1).val
  let c4_i32_2183 : BitVec 32 := 4#32
  let v4967 : BitVec 32 := Scalar.muli arg1 c4_i32_2183
  let v4968 : BitVec 32 := Scalar.addi v4967 c0_i32_2184
  let v4969 : Index := Scalar.indexCast v4968
  let c87 : Index := 87#32
  ![v4969.toNat, 87]
def k0_off96 (i : grid0.Coords) (c0_i32_2202 : BitVec 32) : Fin 2 → Nat :=
  let arg1 : BitVec 32 := BitVec.ofNat 32 (i 1).val
  let c4_i32_2201 : BitVec 32 := 4#32
  let v5004 : BitVec 32 := Scalar.muli arg1 c4_i32_2201
  let v5005 : BitVec 32 := Scalar.addi v5004 c0_i32_2202
  let v5006 : Index := Scalar.indexCast v5005
  let c88 : Index := 88#32
  ![v5006.toNat, 88]
def k0_off97 (i : grid0.Coords) (c0_i32_2220 : BitVec 32) : Fin 2 → Nat :=
  let arg1 : BitVec 32 := BitVec.ofNat 32 (i 1).val
  let c4_i32_2219 : BitVec 32 := 4#32
  let v5041 : BitVec 32 := Scalar.muli arg1 c4_i32_2219
  let v5042 : BitVec 32 := Scalar.addi v5041 c0_i32_2220
  let v5043 : Index := Scalar.indexCast v5042
  let c89 : Index := 89#32
  ![v5043.toNat, 89]
def k0_off98 (i : grid0.Coords) (c0_i32_2238 : BitVec 32) : Fin 2 → Nat :=
  let arg1 : BitVec 32 := BitVec.ofNat 32 (i 1).val
  let c4_i32_2237 : BitVec 32 := 4#32
  let v5078 : BitVec 32 := Scalar.muli arg1 c4_i32_2237
  let v5079 : BitVec 32 := Scalar.addi v5078 c0_i32_2238
  let v5080 : Index := Scalar.indexCast v5079
  let c90 : Index := 90#32
  ![v5080.toNat, 90]
def k0_off99 (i : grid0.Coords) (c0_i32_2256 : BitVec 32) : Fin 2 → Nat :=
  let arg1 : BitVec 32 := BitVec.ofNat 32 (i 1).val
  let c4_i32_2255 : BitVec 32 := 4#32
  let v5115 : BitVec 32 := Scalar.muli arg1 c4_i32_2255
  let v5116 : BitVec 32 := Scalar.addi v5115 c0_i32_2256
  let v5117 : Index := Scalar.indexCast v5116
  let c91 : Index := 91#32
  ![v5117.toNat, 91]
def k0_off100 (i : grid0.Coords) (c0_i32_2274 : BitVec 32) : Fin 2 → Nat :=
  let arg1 : BitVec 32 := BitVec.ofNat 32 (i 1).val
  let c4_i32_2273 : BitVec 32 := 4#32
  let v5152 : BitVec 32 := Scalar.muli arg1 c4_i32_2273
  let v5153 : BitVec 32 := Scalar.addi v5152 c0_i32_2274
  let v5154 : Index := Scalar.indexCast v5153
  let c92 : Index := 92#32
  ![v5154.toNat, 92]
def k0_off101 (i : grid0.Coords) (c0_i32_2292 : BitVec 32) : Fin 2 → Nat :=
  let arg1 : BitVec 32 := BitVec.ofNat 32 (i 1).val
  let c4_i32_2291 : BitVec 32 := 4#32
  let v5189 : BitVec 32 := Scalar.muli arg1 c4_i32_2291
  let v5190 : BitVec 32 := Scalar.addi v5189 c0_i32_2292
  let v5191 : Index := Scalar.indexCast v5190
  let c93 : Index := 93#32
  ![v5191.toNat, 93]
def k0_off102 (i : grid0.Coords) (c0_i32_2310 : BitVec 32) : Fin 2 → Nat :=
  let arg1 : BitVec 32 := BitVec.ofNat 32 (i 1).val
  let c4_i32_2309 : BitVec 32 := 4#32
  let v5226 : BitVec 32 := Scalar.muli arg1 c4_i32_2309
  let v5227 : BitVec 32 := Scalar.addi v5226 c0_i32_2310
  let v5228 : Index := Scalar.indexCast v5227
  let c94 : Index := 94#32
  ![v5228.toNat, 94]
def k0_off103 (i : grid0.Coords) (c0_i32_2328 : BitVec 32) : Fin 2 → Nat :=
  let arg1 : BitVec 32 := BitVec.ofNat 32 (i 1).val
  let c4_i32_2327 : BitVec 32 := 4#32
  let v5263 : BitVec 32 := Scalar.muli arg1 c4_i32_2327
  let v5264 : BitVec 32 := Scalar.addi v5263 c0_i32_2328
  let v5265 : Index := Scalar.indexCast v5264
  let c95 : Index := 95#32
  ![v5265.toNat, 95]
def k0_off104 (i : grid0.Coords) (c0_i32_2355 : BitVec 32) : Fin 2 → Nat :=
  let arg1 : BitVec 32 := BitVec.ofNat 32 (i 1).val
  let c4_i32_2354 : BitVec 32 := 4#32
  let v5310 : BitVec 32 := Scalar.muli arg1 c4_i32_2354
  let v5311 : BitVec 32 := Scalar.addi v5310 c0_i32_2355
  let v5312 : Index := Scalar.indexCast v5311
  let c96 : Index := 96#32
  ![v5312.toNat, 96]
def k0_off105 (i : grid0.Coords) (c0_i32_2373 : BitVec 32) : Fin 2 → Nat :=
  let arg1 : BitVec 32 := BitVec.ofNat 32 (i 1).val
  let c4_i32_2372 : BitVec 32 := 4#32
  let v5347 : BitVec 32 := Scalar.muli arg1 c4_i32_2372
  let v5348 : BitVec 32 := Scalar.addi v5347 c0_i32_2373
  let v5349 : Index := Scalar.indexCast v5348
  let c97 : Index := 97#32
  ![v5349.toNat, 97]
def k0_off106 (i : grid0.Coords) (c0_i32_2391 : BitVec 32) : Fin 2 → Nat :=
  let arg1 : BitVec 32 := BitVec.ofNat 32 (i 1).val
  let c4_i32_2390 : BitVec 32 := 4#32
  let v5384 : BitVec 32 := Scalar.muli arg1 c4_i32_2390
  let v5385 : BitVec 32 := Scalar.addi v5384 c0_i32_2391
  let v5386 : Index := Scalar.indexCast v5385
  let c98 : Index := 98#32
  ![v5386.toNat, 98]
def k0_off107 (i : grid0.Coords) (c0_i32_2409 : BitVec 32) : Fin 2 → Nat :=
  let arg1 : BitVec 32 := BitVec.ofNat 32 (i 1).val
  let c4_i32_2408 : BitVec 32 := 4#32
  let v5421 : BitVec 32 := Scalar.muli arg1 c4_i32_2408
  let v5422 : BitVec 32 := Scalar.addi v5421 c0_i32_2409
  let v5423 : Index := Scalar.indexCast v5422
  let c99 : Index := 99#32
  ![v5423.toNat, 99]
def k0_off108 (i : grid0.Coords) (c0_i32_2427 : BitVec 32) : Fin 2 → Nat :=
  let arg1 : BitVec 32 := BitVec.ofNat 32 (i 1).val
  let c4_i32_2426 : BitVec 32 := 4#32
  let v5458 : BitVec 32 := Scalar.muli arg1 c4_i32_2426
  let v5459 : BitVec 32 := Scalar.addi v5458 c0_i32_2427
  let v5460 : Index := Scalar.indexCast v5459
  let c100 : Index := 100#32
  ![v5460.toNat, 100]
def k0_off109 (i : grid0.Coords) (c0_i32_2445 : BitVec 32) : Fin 2 → Nat :=
  let arg1 : BitVec 32 := BitVec.ofNat 32 (i 1).val
  let c4_i32_2444 : BitVec 32 := 4#32
  let v5495 : BitVec 32 := Scalar.muli arg1 c4_i32_2444
  let v5496 : BitVec 32 := Scalar.addi v5495 c0_i32_2445
  let v5497 : Index := Scalar.indexCast v5496
  let c101 : Index := 101#32
  ![v5497.toNat, 101]
def k0_off110 (i : grid0.Coords) (c0_i32_2463 : BitVec 32) : Fin 2 → Nat :=
  let arg1 : BitVec 32 := BitVec.ofNat 32 (i 1).val
  let c4_i32_2462 : BitVec 32 := 4#32
  let v5532 : BitVec 32 := Scalar.muli arg1 c4_i32_2462
  let v5533 : BitVec 32 := Scalar.addi v5532 c0_i32_2463
  let v5534 : Index := Scalar.indexCast v5533
  let c102 : Index := 102#32
  ![v5534.toNat, 102]
def k0_off111 (i : grid0.Coords) (c0_i32_2481 : BitVec 32) : Fin 2 → Nat :=
  let arg1 : BitVec 32 := BitVec.ofNat 32 (i 1).val
  let c4_i32_2480 : BitVec 32 := 4#32
  let v5569 : BitVec 32 := Scalar.muli arg1 c4_i32_2480
  let v5570 : BitVec 32 := Scalar.addi v5569 c0_i32_2481
  let v5571 : Index := Scalar.indexCast v5570
  let c103 : Index := 103#32
  ![v5571.toNat, 103]
def k0_off112 (i : grid0.Coords) (c0_i32_2499 : BitVec 32) : Fin 2 → Nat :=
  let arg1 : BitVec 32 := BitVec.ofNat 32 (i 1).val
  let c4_i32_2498 : BitVec 32 := 4#32
  let v5606 : BitVec 32 := Scalar.muli arg1 c4_i32_2498
  let v5607 : BitVec 32 := Scalar.addi v5606 c0_i32_2499
  let v5608 : Index := Scalar.indexCast v5607
  let c104 : Index := 104#32
  ![v5608.toNat, 104]
def k0_off113 (i : grid0.Coords) (c0_i32_2517 : BitVec 32) : Fin 2 → Nat :=
  let arg1 : BitVec 32 := BitVec.ofNat 32 (i 1).val
  let c4_i32_2516 : BitVec 32 := 4#32
  let v5643 : BitVec 32 := Scalar.muli arg1 c4_i32_2516
  let v5644 : BitVec 32 := Scalar.addi v5643 c0_i32_2517
  let v5645 : Index := Scalar.indexCast v5644
  let c105 : Index := 105#32
  ![v5645.toNat, 105]
def k0_off114 (i : grid0.Coords) (c0_i32_2535 : BitVec 32) : Fin 2 → Nat :=
  let arg1 : BitVec 32 := BitVec.ofNat 32 (i 1).val
  let c4_i32_2534 : BitVec 32 := 4#32
  let v5680 : BitVec 32 := Scalar.muli arg1 c4_i32_2534
  let v5681 : BitVec 32 := Scalar.addi v5680 c0_i32_2535
  let v5682 : Index := Scalar.indexCast v5681
  let c106 : Index := 106#32
  ![v5682.toNat, 106]
def k0_off115 (i : grid0.Coords) (c0_i32_2553 : BitVec 32) : Fin 2 → Nat :=
  let arg1 : BitVec 32 := BitVec.ofNat 32 (i 1).val
  let c4_i32_2552 : BitVec 32 := 4#32
  let v5717 : BitVec 32 := Scalar.muli arg1 c4_i32_2552
  let v5718 : BitVec 32 := Scalar.addi v5717 c0_i32_2553
  let v5719 : Index := Scalar.indexCast v5718
  let c107 : Index := 107#32
  ![v5719.toNat, 107]
def k0_off116 (i : grid0.Coords) (c0_i32_2571 : BitVec 32) : Fin 2 → Nat :=
  let arg1 : BitVec 32 := BitVec.ofNat 32 (i 1).val
  let c4_i32_2570 : BitVec 32 := 4#32
  let v5754 : BitVec 32 := Scalar.muli arg1 c4_i32_2570
  let v5755 : BitVec 32 := Scalar.addi v5754 c0_i32_2571
  let v5756 : Index := Scalar.indexCast v5755
  let c108 : Index := 108#32
  ![v5756.toNat, 108]
def k0_off117 (i : grid0.Coords) (c0_i32_2589 : BitVec 32) : Fin 2 → Nat :=
  let arg1 : BitVec 32 := BitVec.ofNat 32 (i 1).val
  let c4_i32_2588 : BitVec 32 := 4#32
  let v5791 : BitVec 32 := Scalar.muli arg1 c4_i32_2588
  let v5792 : BitVec 32 := Scalar.addi v5791 c0_i32_2589
  let v5793 : Index := Scalar.indexCast v5792
  let c109 : Index := 109#32
  ![v5793.toNat, 109]
def k0_off118 (i : grid0.Coords) (c0_i32_2607 : BitVec 32) : Fin 2 → Nat :=
  let arg1 : BitVec 32 := BitVec.ofNat 32 (i 1).val
  let c4_i32_2606 : BitVec 32 := 4#32
  let v5828 : BitVec 32 := Scalar.muli arg1 c4_i32_2606
  let v5829 : BitVec 32 := Scalar.addi v5828 c0_i32_2607
  let v5830 : Index := Scalar.indexCast v5829
  let c110 : Index := 110#32
  ![v5830.toNat, 110]
def k0_off119 (i : grid0.Coords) (c0_i32_2625 : BitVec 32) : Fin 2 → Nat :=
  let arg1 : BitVec 32 := BitVec.ofNat 32 (i 1).val
  let c4_i32_2624 : BitVec 32 := 4#32
  let v5865 : BitVec 32 := Scalar.muli arg1 c4_i32_2624
  let v5866 : BitVec 32 := Scalar.addi v5865 c0_i32_2625
  let v5867 : Index := Scalar.indexCast v5866
  let c111 : Index := 111#32
  ![v5867.toNat, 111]
def k0_off120 (i : grid0.Coords) (c0_i32_2652 : BitVec 32) : Fin 2 → Nat :=
  let arg1 : BitVec 32 := BitVec.ofNat 32 (i 1).val
  let c4_i32_2651 : BitVec 32 := 4#32
  let v5912 : BitVec 32 := Scalar.muli arg1 c4_i32_2651
  let v5913 : BitVec 32 := Scalar.addi v5912 c0_i32_2652
  let v5914 : Index := Scalar.indexCast v5913
  let c112 : Index := 112#32
  ![v5914.toNat, 112]
def k0_off121 (i : grid0.Coords) (c0_i32_2670 : BitVec 32) : Fin 2 → Nat :=
  let arg1 : BitVec 32 := BitVec.ofNat 32 (i 1).val
  let c4_i32_2669 : BitVec 32 := 4#32
  let v5949 : BitVec 32 := Scalar.muli arg1 c4_i32_2669
  let v5950 : BitVec 32 := Scalar.addi v5949 c0_i32_2670
  let v5951 : Index := Scalar.indexCast v5950
  let c113 : Index := 113#32
  ![v5951.toNat, 113]
def k0_off122 (i : grid0.Coords) (c0_i32_2688 : BitVec 32) : Fin 2 → Nat :=
  let arg1 : BitVec 32 := BitVec.ofNat 32 (i 1).val
  let c4_i32_2687 : BitVec 32 := 4#32
  let v5986 : BitVec 32 := Scalar.muli arg1 c4_i32_2687
  let v5987 : BitVec 32 := Scalar.addi v5986 c0_i32_2688
  let v5988 : Index := Scalar.indexCast v5987
  let c114 : Index := 114#32
  ![v5988.toNat, 114]
def k0_off123 (i : grid0.Coords) (c0_i32_2706 : BitVec 32) : Fin 2 → Nat :=
  let arg1 : BitVec 32 := BitVec.ofNat 32 (i 1).val
  let c4_i32_2705 : BitVec 32 := 4#32
  let v6023 : BitVec 32 := Scalar.muli arg1 c4_i32_2705
  let v6024 : BitVec 32 := Scalar.addi v6023 c0_i32_2706
  let v6025 : Index := Scalar.indexCast v6024
  let c115 : Index := 115#32
  ![v6025.toNat, 115]
def k0_off124 (i : grid0.Coords) (c0_i32_2724 : BitVec 32) : Fin 2 → Nat :=
  let arg1 : BitVec 32 := BitVec.ofNat 32 (i 1).val
  let c4_i32_2723 : BitVec 32 := 4#32
  let v6060 : BitVec 32 := Scalar.muli arg1 c4_i32_2723
  let v6061 : BitVec 32 := Scalar.addi v6060 c0_i32_2724
  let v6062 : Index := Scalar.indexCast v6061
  let c116 : Index := 116#32
  ![v6062.toNat, 116]
def k0_off125 (i : grid0.Coords) (c0_i32_2742 : BitVec 32) : Fin 2 → Nat :=
  let arg1 : BitVec 32 := BitVec.ofNat 32 (i 1).val
  let c4_i32_2741 : BitVec 32 := 4#32
  let v6097 : BitVec 32 := Scalar.muli arg1 c4_i32_2741
  let v6098 : BitVec 32 := Scalar.addi v6097 c0_i32_2742
  let v6099 : Index := Scalar.indexCast v6098
  let c117 : Index := 117#32
  ![v6099.toNat, 117]
def k0_off126 (i : grid0.Coords) (c0_i32_2760 : BitVec 32) : Fin 2 → Nat :=
  let arg1 : BitVec 32 := BitVec.ofNat 32 (i 1).val
  let c4_i32_2759 : BitVec 32 := 4#32
  let v6134 : BitVec 32 := Scalar.muli arg1 c4_i32_2759
  let v6135 : BitVec 32 := Scalar.addi v6134 c0_i32_2760
  let v6136 : Index := Scalar.indexCast v6135
  let c118 : Index := 118#32
  ![v6136.toNat, 118]
def k0_off127 (i : grid0.Coords) (c0_i32_2778 : BitVec 32) : Fin 2 → Nat :=
  let arg1 : BitVec 32 := BitVec.ofNat 32 (i 1).val
  let c4_i32_2777 : BitVec 32 := 4#32
  let v6171 : BitVec 32 := Scalar.muli arg1 c4_i32_2777
  let v6172 : BitVec 32 := Scalar.addi v6171 c0_i32_2778
  let v6173 : Index := Scalar.indexCast v6172
  let c119 : Index := 119#32
  ![v6173.toNat, 119]
def k0_off128 (i : grid0.Coords) (c0_i32_2796 : BitVec 32) : Fin 2 → Nat :=
  let arg1 : BitVec 32 := BitVec.ofNat 32 (i 1).val
  let c4_i32_2795 : BitVec 32 := 4#32
  let v6208 : BitVec 32 := Scalar.muli arg1 c4_i32_2795
  let v6209 : BitVec 32 := Scalar.addi v6208 c0_i32_2796
  let v6210 : Index := Scalar.indexCast v6209
  let c120 : Index := 120#32
  ![v6210.toNat, 120]
def k0_off129 (i : grid0.Coords) (c0_i32_2814 : BitVec 32) : Fin 2 → Nat :=
  let arg1 : BitVec 32 := BitVec.ofNat 32 (i 1).val
  let c4_i32_2813 : BitVec 32 := 4#32
  let v6245 : BitVec 32 := Scalar.muli arg1 c4_i32_2813
  let v6246 : BitVec 32 := Scalar.addi v6245 c0_i32_2814
  let v6247 : Index := Scalar.indexCast v6246
  let c121 : Index := 121#32
  ![v6247.toNat, 121]
def k0_off130 (i : grid0.Coords) (c0_i32_2832 : BitVec 32) : Fin 2 → Nat :=
  let arg1 : BitVec 32 := BitVec.ofNat 32 (i 1).val
  let c4_i32_2831 : BitVec 32 := 4#32
  let v6282 : BitVec 32 := Scalar.muli arg1 c4_i32_2831
  let v6283 : BitVec 32 := Scalar.addi v6282 c0_i32_2832
  let v6284 : Index := Scalar.indexCast v6283
  let c122 : Index := 122#32
  ![v6284.toNat, 122]
def k0_off131 (i : grid0.Coords) (c0_i32_2850 : BitVec 32) : Fin 2 → Nat :=
  let arg1 : BitVec 32 := BitVec.ofNat 32 (i 1).val
  let c4_i32_2849 : BitVec 32 := 4#32
  let v6319 : BitVec 32 := Scalar.muli arg1 c4_i32_2849
  let v6320 : BitVec 32 := Scalar.addi v6319 c0_i32_2850
  let v6321 : Index := Scalar.indexCast v6320
  let c123 : Index := 123#32
  ![v6321.toNat, 123]
def k0_off132 (i : grid0.Coords) (c0_i32_2868 : BitVec 32) : Fin 2 → Nat :=
  let arg1 : BitVec 32 := BitVec.ofNat 32 (i 1).val
  let c4_i32_2867 : BitVec 32 := 4#32
  let v6356 : BitVec 32 := Scalar.muli arg1 c4_i32_2867
  let v6357 : BitVec 32 := Scalar.addi v6356 c0_i32_2868
  let v6358 : Index := Scalar.indexCast v6357
  let c124 : Index := 124#32
  ![v6358.toNat, 124]
def k0_off133 (i : grid0.Coords) (c0_i32_2886 : BitVec 32) : Fin 2 → Nat :=
  let arg1 : BitVec 32 := BitVec.ofNat 32 (i 1).val
  let c4_i32_2885 : BitVec 32 := 4#32
  let v6393 : BitVec 32 := Scalar.muli arg1 c4_i32_2885
  let v6394 : BitVec 32 := Scalar.addi v6393 c0_i32_2886
  let v6395 : Index := Scalar.indexCast v6394
  let c125 : Index := 125#32
  ![v6395.toNat, 125]
def k0_off134 (i : grid0.Coords) (c0_i32_2904 : BitVec 32) : Fin 2 → Nat :=
  let arg1 : BitVec 32 := BitVec.ofNat 32 (i 1).val
  let c4_i32_2903 : BitVec 32 := 4#32
  let v6430 : BitVec 32 := Scalar.muli arg1 c4_i32_2903
  let v6431 : BitVec 32 := Scalar.addi v6430 c0_i32_2904
  let v6432 : Index := Scalar.indexCast v6431
  let c126 : Index := 126#32
  ![v6432.toNat, 126]
def k0_off135 (i : grid0.Coords) (c0_i32_2922 : BitVec 32) : Fin 2 → Nat :=
  let arg1 : BitVec 32 := BitVec.ofNat 32 (i 1).val
  let c4_i32_2921 : BitVec 32 := 4#32
  let v6467 : BitVec 32 := Scalar.muli arg1 c4_i32_2921
  let v6468 : BitVec 32 := Scalar.addi v6467 c0_i32_2922
  let v6469 : Index := Scalar.indexCast v6468
  let c127 : Index := 127#32
  ![v6469.toNat, 127]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c23_i32_0 : BitVec 32 := 23#32
  let v1 : BitVec 1 := Scalar.cmpi .sgt arg0 c23_i32_0
  let c7_i32 : BitVec 32 := 7#32
  let v2 : BitVec 32 := Scalar.minsi arg1 c7_i32
  let c7_i32_1 : BitVec 32 := 7#32
  let v3 : BitVec 32 := Scalar.select v1 c7_i32_1 v2
  let c0_i32 : BitVec 32 := 0#32
  ![v0.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  let c0_i32_3 : BitVec 32 := 0#32
  ![v1.toNat, c0_i32_2.toNat, v3.toNat]

def cc0_transform_7 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c23_i32_0 : BitVec 32 := 23#32
  let v1 : BitVec 1 := Scalar.cmpi .sgt arg0 c23_i32_0
  let c7_i32 : BitVec 32 := 7#32
  let v2 : BitVec 32 := Scalar.minsi arg1 c7_i32
  let c7_i32_1 : BitVec 32 := 7#32
  let v3 : BitVec 32 := Scalar.select v1 c7_i32_1 v2
  let c0_i32 : BitVec 32 := 0#32
  ![v0.toNat, v3.toNat]

def cc0_transform_8 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c0_i32 : BitVec 32 := 0#32
  let c0_i32_0 : BitVec 32 := 0#32
  ![v0.toNat, c0_i32.toNat]

abbrev stage0_0 : Fin 1 → Memref sig .tc .smem S48x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x16384 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x48 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S6x2048x16384 : Shape := ⟨3, ![6, 2048, 16384]⟩
abbrev S6144x16384 : Shape := ⟨2, ![6144, 16384]⟩
abbrev S48x128 : Shape := ⟨2, ![48, 128]⟩
abbrev S12288x16384 : Shape := ⟨2, ![12288, 16384]⟩
abbrev S12288x6144 : Shape := ⟨2, ![12288, 6144]⟩
abbrev S12288x48 : Shape := ⟨2, ![12288, 48]⟩
abbrev S24x4x6144 : Shape := ⟨3, ![24, 4, 6144]⟩
abbrev S12288x128 : Shape := ⟨2, ![12288, 128]⟩
abbrev S12288x128x128 : Shape := ⟨3, ![12288, 128, 128]⟩
abbrev S12288x128x1 : Shape := ⟨3, ![12288, 128, 1]⟩
abbrev S48x128x128x128 : Shape := ⟨4, ![48, 128, 128, 128]⟩
abbrev S48x1x128x1 : Shape := ⟨4, ![48, 1, 128, 1]⟩
abbrev S12288x48x128 : Shape := ⟨3, ![12288, 48, 128]⟩
abbrev S12288x48x1 : Shape := ⟨3, ![12288, 48, 1]⟩
abbrev S96x128x6144 : Shape := ⟨3, ![96, 128, 6144]⟩
abbrev S96x6144 : Shape := ⟨2, ![96, 6144]⟩
abbrev S96x1x6144 : Shape := ⟨3, ![96, 1, 6144]⟩

abbrev nBuf : Space → Nat
  | .hbm => 10
  | .vmem => 9
  | .smem => 0
  | _ => 0

abbrev bufTy : (tb : Table) → Fin (tcTables nBuf tb) → BufTy
  | .hbm, ⟨0, _⟩ => ⟨S6x2048x16384, .bf16⟩
  | .hbm, ⟨1, _⟩ => ⟨S6144x16384, .fp8e4m3⟩
  | .hbm, ⟨2, _⟩ => ⟨S48x128, .f32⟩
  | .hbm, ⟨3, _⟩ => ⟨S12288x16384, .bf16⟩
  | .hbm, ⟨4, _⟩ => ⟨S12288x6144, .fp8e4m3⟩
  | .hbm, ⟨5, _⟩ => ⟨S12288x48, .f32⟩
  | .hbm, ⟨6, _⟩ => ⟨S12288x6144, .fp8e4m3⟩
  | .hbm, ⟨7, _⟩ => ⟨S24x4x6144, .f32⟩
  | .hbm, ⟨8, _⟩ => ⟨S12288x16384, .fp8e4m3⟩
  | .hbm, ⟨9, _⟩ => ⟨S12288x128, .f32⟩
  | .local _ .vmem, ⟨0, _⟩ => ⟨S12288x16384, .bf16⟩
  | .local _ .vmem, ⟨1, _⟩ => ⟨S6144x16384, .fp8e4m3⟩
  | .local _ .vmem, ⟨2, _⟩ => ⟨S48x128, .f32⟩
  | .local _ .vmem, ⟨3, _⟩ => ⟨S12288x6144, .fp8e4m3⟩
  | .local _ .vmem, ⟨4, _⟩ => ⟨S12288x48, .f32⟩
  | .local _ .vmem, ⟨5, _⟩ => ⟨S12288x6144, .fp8e4m3⟩
  | .local _ .vmem, ⟨6, _⟩ => ⟨S24x4x6144, .f32⟩
  | .local _ .vmem, ⟨7, _⟩ => ⟨S12288x16384, .fp8e4m3⟩
  | .local _ .vmem, ⟨8, _⟩ => ⟨S12288x128, .f32⟩
  | _, _ => ⟨S6x2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S12288x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x6144 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x6144 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x16384 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12288x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Printed.RunFirst.lean ====
/-
  The kernel body at a grid point of the first row block (`i = 0`), run once: it quantises one chunk of `dy` and does
  nothing else.
-/
module

public import proofs.«01_k».proof.Proof.Gen.Kernel.Frame
public import proofs.«01_k».proof.Proof.Gen.Kernel.Skeleton

@[expose] public section

set_option maxRecDepth 16384

noncomputable section

namespace Cert.Kernel.Proof

open Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer held whole at `f`. -/
abbrev pt (c : Dev nD) {sp : Space} {S : Shape} {e : EltTy} (M : Memref sig .tc sp S e) (f : Bf (F := F) c M) : sProp 𝕄 :=
  M.view.loc (c : Thread nD τ) ↦{fullShare} f

/-- What the body leaves in the buffers of the `dy` codes, the `dy` scales and the dequantised rows at `i = 0`, with
    its run. -/
noncomputable def runFirst (c : Dev nD) (𝒱₀ : Variants) (i : grid0.Coords) (hc1 : k0_cond1 i = 1#1) (hc2 : ¬ k0_cond2 i = 1#1)
    (M2 : Memref sig .tc .smem S48x128 .f32) (h2 : M2.IsWhole) (M3 : Memref sig .tc .vmem S512x2048 .bf16) (h3 : M3.IsWhole)
    (M4 : Memref sig .tc .vmem S512x16384 .fp8e4m3) (h4 : M4.IsWhole) (M5 : Memref sig .tc .vmem S512x512 .fp8e4m3) (h5 : M5.IsWhole)
    (M6 : Memref sig .tc .vmem S512x48 .f32) (h6 : M6.IsWhole) (M7 : Memref sig .tc .vmem S512x512 .fp8e4m3) (h7 : M7.IsWhole)
    (M8 : Memref sig .tc .vmem S1x4x512 .f32) (h8 : M8.IsWhole) (M9 : Memref sig .tc .vmem S512x2048 .fp8e4m3) (h9 : M9.IsWhole)
    (M10 : Memref sig .tc .vmem S512x128 .f32) (h10 : M10.IsWhole) (M11 : Memref sig .tc .vmem S2x512x16384 .bf16) (h11 : M11.IsWhole)
    (M12 : Memref sig .tc .vmem S512x512 .f32) (h12 : M12.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10) (f11 : Bf (F := F) c M11)
    (f12 : Bf (F := F) c M12) :
    { W : Bf (F := F) c M9 × Bf (F := F) c M10 × Bf (F := F) c M11 //
      ∀ (E : Set ℕ) (Q : PUnit → sProp 𝕄),
        iprop(pt c M2 f2 ∗ pt c M3 f3 ∗ pt c M4 f4 ∗ pt c M5 f5 ∗ pt c M6 f6 ∗ pt c M7 f7
          ∗ pt c M8 f8 ∗ pt c M9 f9 ∗ pt c M10 f10 ∗ pt c M11 f11 ∗ pt c M12 f12
          ∗ (iprop(pt c M2 f2 ∗ pt c M3 f3 ∗ pt c M4 f4 ∗ pt c M5 f5 ∗ pt c M6 f6 ∗ pt c M7 f7
              ∗ pt c M8 f8 ∗ pt c M9 W.1 ∗ pt c M10 W.2.1 ∗ pt c M11 W.2.2 ∗ pt c M12 f12) -∗ Q ⟨⟩))
        ⊢ wp frame (wpE (defs₀ (F := F)) 𝒱₀ c none) E
            (cc0_dgrad_requant i M2 h2 M3 h3 M4 h4 M5 h5 M6 h6 M7 h7 M8 h8 M9 h9 M10 h10 M11 h11 M12 h12) Q } := by
  refine ⟨⟨?_, ?_, ?_⟩, fun E Q => ?run⟩
  case run =>
    iintro ⟨H2, H3, H4, H5, H6, H7, H8, H9, H10, H11, H12, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Cert.Kernel.Proof

end
-- ==== Proof.Printed.RunNext.lean ====
/-
  The kernel body at a grid point past the first row block (`i > 0`), run once: it quantises one chunk of `dy`, forms a
  tile of the product for the row block before, and requantises it by rows and by columns.
-/
module

public import proofs.«01_k».proof.Proof.Printed.RunFirst

@[expose] public section

set_option maxRecDepth 16384

noncomputable section

namespace Cert.Kernel.Proof

open Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body leaves in the six results' buffers and its two scratch buffers at `i > 0`, with its run. -/
noncomputable def runNext (c : Dev nD) (𝒱₀ : Variants) (i : grid0.Coords) (hc1 : ¬ k0_cond1 i = 1#1) (hc2 : k0_cond2 i = 1#1)
    (M2 : Memref sig .tc .smem S48x128 .f32) (h2 : M2.IsWhole) (M3 : Memref sig .tc .vmem S512x2048 .bf16) (h3 : M3.IsWhole)
    (M4 : Memref sig .tc .vmem S512x16384 .fp8e4m3) (h4 : M4.IsWhole) (M5 : Memref sig .tc .vmem S512x512 .fp8e4m3) (h5 : M5.IsWhole)
    (M6 : Memref sig .tc .vmem S512x48 .f32) (h6 : M6.IsWhole) (M7 : Memref sig .tc .vmem S512x512 .fp8e4m3) (h7 : M7.IsWhole)
    (M8 : Memref sig .tc .vmem S1x4x512 .f32) (h8 : M8.IsWhole) (M9 : Memref sig .tc .vmem S512x2048 .fp8e4m3) (h9 : M9.IsWhole)
    (M10 : Memref sig .tc .vmem S512x128 .f32) (h10 : M10.IsWhole) (M11 : Memref sig .tc .vmem S2x512x16384 .bf16) (h11 : M11.IsWhole)
    (M12 : Memref sig .tc .vmem S512x512 .f32) (h12 : M12.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10) (f11 : Bf (F := F) c M11)
    (f12 : Bf (F := F) c M12) :
    { W : Bf (F := F) c M5 × Bf (F := F) c M6 × Bf (F := F) c M7 × Bf (F := F) c M8 × Bf (F := F) c M9 × Bf (F := F) c M10
          × Bf (F := F) c M11 × Bf (F := F) c M12 //
      ∀ (E : Set ℕ) (Q : PUnit → sProp 𝕄),
        iprop(pt c M2 f2 ∗ pt c M3 f3 ∗ pt c M4 f4 ∗ pt c M5 f5 ∗ pt c M6 f6 ∗ pt c M7 f7
          ∗ pt c M8 f8 ∗ pt c M9 f9 ∗ pt c M10 f10 ∗ pt c M11 f11 ∗ pt c M12 f12
          ∗ (iprop(pt c M2 f2 ∗ pt c M3 f3 ∗ pt c M4 f4 ∗ pt c M5 W.1 ∗ pt c M6 W.2.1 ∗ pt c M7 W.2.2.1
              ∗ pt c M8 W.2.2.2.1 ∗ pt c M9 W.2.2.2.2.1 ∗ pt c M10 W.2.2.2.2.2.1 ∗ pt c M11 W.2.2.2.2.2.2.1
              ∗ pt c M12 W.2.2.2.2.2.2.2) -∗ Q ⟨⟩))
        ⊢ wp frame (wpE (defs₀ (F := F)) 𝒱₀ c none) E
            (cc0_dgrad_requant i M2 h2 M3 h3 M4 h4 M5 h5 M6 h6 M7 h7 M8 h8 M9 h9 M10 h10 M11 h11 M12 h12) Q } := by
  refine ⟨⟨?_, ?_, ?_, ?_, ?_, ?_, ?_, ?_⟩, fun E Q => ?run⟩
  case run =>
    iintro ⟨H2, H3, H4, H5, H6, H7, H8, H9, H10, H11, H12, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Cert.Kernel.Proof

end
-- ==== Proof.Printed.Pipeline.lean ====
/-
  The pipeline around the body. A `Track` says what is known of each staging buffer the body leaves and of the
  dequantised rows carried from point to point; if one run of the body (`RunFirst`, `RunNext`) keeps it, the whole
  program runs, and every array ends as the track allows.
-/
module

public import proofs.«01_k».proof.Proof.Printed.RunFirst
public import proofs.«01_k».proof.Proof.Printed.RunNext

@[expose] public section

set_option maxRecDepth 16384

noncomputable section

namespace Cert.Kernel.Proof

open Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two branches of the body exclude each other and one of them is taken. -/
theorem cond_cases (i : grid0.Coords) :
    ((i 0).val = 0 ∧ k0_cond1 i = 1#1 ∧ ¬ k0_cond2 i = 1#1) ∨ ((i 0).val ≠ 0 ∧ ¬ k0_cond1 i = 1#1 ∧ k0_cond2 i = 1#1) := by
  unfold k0_cond1 k0_cond2
  generalize i 0 = a
  revert a
  decide +kernel

/-- What is known of the six results' staging buffers after the body at a point (`r3` … `r8`), and of the dequantised
    rows before a point (`deq`). -/
structure Track (F : FTy → Type) [FloatOps F] where
  r3 : Fin cfg0.N → Vec F S512x512 .fp8e4m3 → Prop
  r4 : Fin cfg0.N → Vec F S512x48 .f32 → Prop
  r5 : Fin cfg0.N → Vec F S512x512 .fp8e4m3 → Prop
  r6 : Fin cfg0.N → Vec F S1x4x512 .f32 → Prop
  r7 : Fin cfg0.N → Vec F S512x2048 .fp8e4m3 → Prop
  r8 : Fin cfg0.N → Vec F S512x128 .f32 → Prop
  deq : Fin (cfg0.N + 1) → Vec F S2x512x16384 .bf16 → Prop

/-- The scratch holding the dequantised rows, two row blocks of them, -/
abbrev mDeq : Memref sig .tc .vmem S2x512x16384 .bf16 := Memref.whole cc0_scratch0
/-- and the accumulator. -/
abbrev mAcc : Memref sig .tc .vmem S512x512 .f32 := Memref.whole cc0_scratch1

/-- The relational proof data: an operand's staging buffer stays as found, a result's meets the track. -/
def rdat (T : Track F) (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun _ X => T.r3 t X
    | ⟨4, _⟩ => fun _ X => T.r4 t X
    | ⟨5, _⟩ => fun _ X => T.r5 t X
    | ⟨6, _⟩ => fun _ X => T.r6 t X
    | ⟨7, _⟩ => fun _ X => T.r7 t X
    | ⟨8, _⟩ => fun _ X => T.r8 t X
  Φ t := iprop((∃ D : Bf (F := F) c mDeq, ⌜T.deq t D⌝ ∗ pt c mDeq D) ∗ (∃ f : Bf (F := F) c mAcc, pt c mAcc f) ∗ ∃ r, prngReg c r)
  q _ := fullShare
  owed _ := 0

/-- What the body is handed at point `t`, and what it is known to hold. -/
structure Handed (T : Track F) (c : Dev nD) (t : Fin cfg0.N)
    (M2 : Memref sig .tc .smem S48x128 .f32) (M3 : Memref sig .tc .vmem S512x2048 .bf16)
    (M4 : Memref sig .tc .vmem S512x16384 .fp8e4m3) (M5 : Memref sig .tc .vmem S512x512 .fp8e4m3)
    (M6 : Memref sig .tc .vmem S512x48 .f32) (M7 : Memref sig .tc .vmem S512x512 .fp8e4m3)
    (M8 : Memref sig .tc .vmem S1x4x512 .f32) (M9 : Memref sig .tc .vmem S512x2048 .fp8e4m3)
    (M10 : Memref sig .tc .vmem S512x128 .f32)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10) (D : Bf (F := F) c mDeq) : Prop where
  y2 : M2.view.read (Elt F) f2 = iblk m c 0 t
  y3 : M3.view.read (Elt F) f3 = iblk m c 1 t
  y4 : M4.view.read (Elt F) f4 = iblk m c 2 t
  y5 : (rdat m T c).Finds 3 t (M5.view.read (Elt F) f5)
  y6 : (rdat m T c).Finds 4 t (M6.view.read (Elt F) f6)
  y7 : (rdat m T c).Finds 5 t (M7.view.read (Elt F) f7)
  y8 : (rdat m T c).Finds 6 t (M8.view.read (Elt F) f8)
  y9 : (rdat m T c).Finds 7 t (M9.view.read (Elt F) f9)
  y10 : (rdat m T c).Finds 8 t (M10.view.read (Elt F) f10)
  deq : T.deq t.castSucc D

/-- The body at a point of the first row block keeps the track. -/
def KeepsFirst (T : Track F) : Prop :=
  ∀ (c : Dev nD) (𝒱₀ : Variants) (t : Fin cfg0.N) (hc1 : k0_cond1 (grid0.coords t) = 1#1) (hc2 : ¬ k0_cond2 (grid0.coords t) = 1#1)
    (M2 : Memref sig .tc .smem S48x128 .f32) (h2 : M2.IsWhole) (M3 : Memref sig .tc .vmem S512x2048 .bf16) (h3 : M3.IsWhole)
    (M4 : Memref sig .tc .vmem S512x16384 .fp8e4m3) (h4 : M4.IsWhole) (M5 : Memref sig .tc .vmem S512x512 .fp8e4m3) (h5 : M5.IsWhole)
    (M6 : Memref sig .tc .vmem S512x48 .f32) (h6 : M6.IsWhole) (M7 : Memref sig .tc .vmem S512x512 .fp8e4m3) (h7 : M7.IsWhole)
    (M8 : Memref sig .tc .vmem S1x4x512 .f32) (h8 : M8.IsWhole) (M9 : Memref sig .tc .vmem S512x2048 .fp8e4m3) (h9 : M9.IsWhole)
    (M10 : Memref sig .tc .vmem S512x128 .f32) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10) (D : Bf (F := F) c mDeq)
    (f12 : Bf (F := F) c mAcc),
    Handed m T c t M2 M3 M4 M5 M6 M7 M8 M9 M10 f2 f3 f4 f5 f6 f7 f8 f9 f10 D →
    let W := (runFirst c 𝒱₀ (grid0.coords t) hc1 hc2 M2 h2 M3 h3 M4 h4 M5 h5 M6 h6 M7 h7 M8 h8 M9 h9 M10 h10 mDeq (Memref.isWhole_whole _)
      mAcc (Memref.isWhole_whole _) f2 f3 f4 f5 f6 f7 f8 f9 f10 D f12).1
    T.r3 t (M5.view.read (Elt F) f5) ∧ T.r4 t (M6.view.read (Elt F) f6) ∧ T.r5 t (M7.view.read (Elt F) f7)
      ∧ T.r6 t (M8.view.read (Elt F) f8) ∧ T.r7 t (M9.view.read (Elt F) W.1) ∧ T.r8 t (M10.view.read (Elt F) W.2.1)
      ∧ T.deq t.succ W.2.2

/-- The body at a point past the first row block keeps the track. -/
def KeepsNext (T : Track F) : Prop :=
  ∀ (c : Dev nD) (𝒱₀ : Variants) (t : Fin cfg0.N) (hc1 : ¬ k0_cond1 (grid0.coords t) = 1#1) (hc2 : k0_cond2 (grid0.coords t) = 1#1)
    (M2 : Memref sig .tc .smem S48x128 .f32) (h2 : M2.IsWhole) (M3 : Memref sig .tc .vmem S512x2048 .bf16) (h3 : M3.IsWhole)
    (M4 : Memref sig .tc .vmem S512x16384 .fp8e4m3) (h4 : M4.IsWhole) (M5 : Memref sig .tc .vmem S512x512 .fp8e4m3) (h5 : M5.IsWhole)
    (M6 : Memref sig .tc .vmem S512x48 .f32) (h6 : M6.IsWhole) (M7 : Memref sig .tc .vmem S512x512 .fp8e4m3) (h7 : M7.IsWhole)
    (M8 : Memref sig .tc .vmem S1x4x512 .f32) (h8 : M8.IsWhole) (M9 : Memref sig .tc .vmem S512x2048 .fp8e4m3) (h9 : M9.IsWhole)
    (M10 : Memref sig .tc .vmem S512x128 .f32) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10) (D : Bf (F := F) c mDeq)
    (f12 : Bf (F := F) c mAcc),
    Handed m T c t M2 M3 M4 M5 M6 M7 M8 M9 M10 f2 f3 f4 f5 f6 f7 f8 f9 f10 D →
    let W := (runNext c 𝒱₀ (grid0.coords t) hc1 hc2 M2 h2 M3 h3 M4 h4 M5 h5 M6 h6 M7 h7 M8 h8 M9 h9 M10 h10 mDeq (Memref.isWhole_whole _)
      mAcc (Memref.isWhole_whole _) f2 f3 f4 f5 f6 f7 f8 f9 f10 D f12).1
    T.r3 t (M5.view.read (Elt F) W.1) ∧ T.r4 t (M6.view.read (Elt F) W.2.1) ∧ T.r5 t (M7.view.read (Elt F) W.2.2.1)
      ∧ T.r6 t (M8.view.read (Elt F) W.2.2.2.1) ∧ T.r7 t (M9.view.read (Elt F) W.2.2.2.2.1) ∧ T.r8 t (M10.view.read (Elt F) W.2.2.2.2.2.1)
      ∧ T.deq t.succ W.2.2.2.2.2.2.1

omit [FloatOps F] in
/-- A whole memref owned at `X` is its buffer held whole at contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  unfold owns pt
  iintro ⟨%f, %hf, H⟩
  obtain rfl := h.eq_unread hf
  rw [h.set_eq_univ]
  iexact H

omit [FloatOps F] in
/-- A whole memref's buffer held whole is the memref owned at what it reads. -/
theorem pt_owns (c : Dev nD) {sp : Space} {S : Shape} {e : EltTy} (M : Memref sig .tc sp S e) (h : M.IsWhole) (f : Bf (F := F) c M) :
    pt c M f ⊢ (owns (c : Thread nD τ) M fullShare (M.view.read (Elt F) f) : sProp 𝕄) := by
  unfold owns pt
  iintro H
  iexists _; isplitr; · ipureintro; rfl
  rw [h.set_eq_univ]
  iexact H

theorem defs₀_row (t : Fin cfg0.N) : defs₀ (F := F) .tc cfg0.body (cfg0.bodyArgs t (cfg0.slots t)) = bodyAt0 t := by
  unfold defs₀; rw [Defs.onTc_tc]

/-- An operand's staging buffer holds its block at every point. -/
theorem finds0 (T : Track F) (c : Dev nD) (t : Fin cfg0.N) (Y) (h : (rdat m T c).Finds 0 t Y) : Y = iblk m c 0 t := by
  obtain ⟨d, rfl⟩ := (rdat m T c).finds_in_eq_fetched 0 rfl (fun _ _ _ => rfl) (fun _ _ _ h => h) t Y h; rfl
@[inherit_doc finds0]
theorem finds1 (T : Track F) (c : Dev nD) (t : Fin cfg0.N) (Y) (h : (rdat m T c).Finds 1 t Y) : Y = iblk m c 1 t := by
  obtain ⟨d, rfl⟩ := (rdat m T c).finds_in_eq_fetched 1 rfl (fun _ _ _ => rfl) (fun _ _ _ h => h) t Y h; rfl
@[inherit_doc finds0]
theorem finds2 (T : Track F) (c : Dev nD) (t : Fin cfg0.N) (Y) (h : (rdat m T c).Finds 2 t Y) : Y = iblk m c 2 t := by
  obtain ⟨d, rfl⟩ := (rdat m T c).finds_in_eq_fetched 2 rfl (fun _ _ _ => rfl) (fun _ _ _ h => h) t Y h; rfl

/-- The body obligation of the pipeline: one run of the body, in either case, keeps the track. -/
theorem body_obligation (T : Track F) (hF : KeepsFirst m T) (hN : KeepsNext m T) (𝒱₀ : Variants) (c : Dev nD) :
    (rdat m T c).BodyObligation (defs₀ (F := F)) 𝒱₀ () Set.univ := by
  intro t Y hY
  rw [bigSep_W0, bigSep_W0, defs₀_row]
  have e0 := finds0 m T c t _ (hY 0)
  have e1 := finds1 m T c t _ (hY 1)
  have e2 := finds2 m T c t _ (hY 2)
  have h0 : (st0_0 t).IsWhole := hstage0_0 ((cfg0.slots t 0).cast nbuf0_0)
  have h1 : (st0_1 t).IsWhole := hstage0_1 ((cfg0.slots t 1).cast nbuf0_1)
  have h2 : (st0_2 t).IsWhole := hstage0_2 ((cfg0.slots t 2).cast nbuf0_2)
  have h3 : (st0_3 t).IsWhole := hstage0_3 ((cfg0.slots t 3).cast nbuf0_3)
  have h4 : (st0_4 t).IsWhole := hstage0_4 ((cfg0.slots t 4).cast nbuf0_4)
  have h5 : (st0_5 t).IsWhole := hstage0_5 ((cfg0.slots t 5).cast nbuf0_5)
  have h6 : (st0_6 t).IsWhole := hstage0_6 ((cfg0.slots t 6).cast nbuf0_6)
  have h7 : (st0_7 t).IsWhole := hstage0_7 ((cfg0.slots t 7).cast nbuf0_7)
  have h8 : (st0_8 t).IsWhole := hstage0_8 ((cfg0.slots t 8).cast nbuf0_8)
  have hH (D : Bf (F := F) c mDeq) (hD : T.deq t.castSucc D) : Handed m T c t (st0_0 t) (st0_1 t) (st0_2 t) (st0_3 t) (st0_4 t) (st0_5 t) (st0_6 t) (st0_7 t) (st0_8 t) (h0.unread (Y 0)) (h1.unread (Y 1)) (h2.unread (Y 2)) (h3.unread (Y 3)) (h4.unread (Y 4)) (h5.unread (Y 5)) (h6.unread (Y 6)) (h7.unread (Y 7)) (h8.unread (Y 8)) D := by
    constructor
    all_goals first | exact hD | skip
    · rw [h0.read_unread]; exact e0
    · rw [h1.read_unread]; exact e1
    · rw [h2.read_unread]; exact e2
    · rw [h3.read_unread]; exact hY 3
    · rw [h4.read_unread]; exact hY 4
    · rw [h5.read_unread]; exact hY 5
    · rw [h6.read_unread]; exact hY 6
    · rw [h7.read_unread]; exact hY 7
    · rw [h8.read_unread]; exact hY 8
  unfold RDat.owesAt Pipeline.owesWithin bodyAt0
  have hΦ (u : Fin (cfg0.N + 1)) : (rdat m T c).Φ u = iprop((∃ D : Bf (F := F) c mDeq, ⌜T.deq u D⌝ ∗ pt c mDeq D)
    ∗ (∃ f : Bf (F := F) c mAcc, pt c mAcc f) ∗ ∃ r, prngReg c r) := rfl
  rw [hΦ, hΦ]
  iintro ⟨⟨⟨%D, %hD, HD⟩, ⟨%fA, HA⟩, Hρ⟩, ⟨%Wo, -, Ho⟩, H0, H1, H2, H3, H4, H5, H6, H7, H8⟩
  ihave H0 := (owns_pt c (st0_0 t) h0 (Y 0)) $$ H0
  ihave H1 := (owns_pt c (st0_1 t) h1 (Y 1)) $$ H1
  ihave H2 := (owns_pt c (st0_2 t) h2 (Y 2)) $$ H2
  ihave H3 := (owns_pt c (st0_3 t) h3 (Y 3)) $$ H3
  ihave H4 := (owns_pt c (st0_4 t) h4 (Y 4)) $$ H4
  ihave H5 := (owns_pt c (st0_5 t) h5 (Y 5)) $$ H5
  ihave H6 := (owns_pt c (st0_6 t) h6 (Y 6)) $$ H6
  ihave H7 := (owns_pt c (st0_7 t) h7 (Y 7)) $$ H7
  ihave H8 := (owns_pt c (st0_8 t) h8 (Y 8)) $$ H8
  obtain ⟨-, hc1, hc2⟩ | ⟨-, hc1, hc2⟩ := cond_cases (grid0.coords t)
  · have hW := hF c 𝒱₀ t hc1 hc2 (st0_0 t) h0 (st0_1 t) h1 (st0_2 t) h2 (st0_3 t) h3 (st0_4 t) h4 (st0_5 t) h5 (st0_6 t) h6 (st0_7 t) h7 (st0_8 t) h8 (h0.unread (Y 0)) (h1.unread (Y 1)) (h2.unread (Y 2)) (h3.unread (Y 3)) (h4.unread (Y 4)) (h5.unread (Y 5)) (h6.unread (Y 6)) (h7.unread (Y 7)) (h8.unread (Y 8)) D fA (hH D hD)
    iapply ((runFirst c 𝒱₀ (grid0.coords t) hc1 hc2 (st0_0 t) h0 (st0_1 t) h1 (st0_2 t) h2 (st0_3 t) h3 (st0_4 t) h4 (st0_5 t) h5 (st0_6 t) h6 (st0_7 t) h7 (st0_8 t) h8 mDeq (Memref.isWhole_whole _) mAcc (Memref.isWhole_whole _) (h0.unread (Y 0)) (h1.unread (Y 1)) (h2.unread (Y 2)) (h3.unread (Y 3)) (h4.unread (Y 4)) (h5.unread (Y 5)) (h6.unread (Y 6)) (h7.unread (Y 7)) (h8.unread (Y 8)) D fA).2 _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HD]; · iexact HD
    isplitl [HA]; · iexact HA
    iintro ⟨H0, H1, H2, H3, H4, H5, H6, H7, H8, HD, HA⟩
    isplitl [HD HA Hρ]
    · isplitl [HD]
      · iexists _; isplitr; · ipureintro; exact hW.2.2.2.2.2.2
        iexact HD
      isplitl [HA]; · iexists _; iexact HA
      iexact Hρ
    isplitl [Ho]
    · iexists Wo; isplitr; · ipureintro; exact fun _ _ => Or.inl trivial
      iexact Ho
    isplitl [H0]
    · iexists ((st0_0 t).view.read (Elt F) _); isplitr
      rotate_left
      · iapply (pt_owns c (st0_0 t) h0 _); iexact H0
      · ipureintro; exact h0.read_unread (Y 0)
    isplitl [H1]
    · iexists ((st0_1 t).view.read (Elt F) _); isplitr
      rotate_left
      · iapply (pt_owns c (st0_1 t) h1 _); iexact H1
      · ipureintro; exact h1.read_unread (Y 1)
    isplitl [H2]
    · iexists ((st0_2 t).view.read (Elt F) _); isplitr
      rotate_left
      · iapply (pt_owns c (st0_2 t) h2 _); iexact H2
      · ipureintro; exact h2.read_unread (Y 2)
    isplitl [H3]
    · iexists ((st0_3 t).view.read (Elt F) _); isplitr
      rotate_left
      · iapply (pt_owns c (st0_3 t) h3 _); iexact H3
      · ipureintro; exact hW.1
    isplitl [H4]
    · iexists ((st0_4 t).view.read (Elt F) _); isplitr
      rotate_left
      · iapply (pt_owns c (st0_4 t) h4 _); iexact H4
      · ipureintro; exact hW.2.1
    isplitl [H5]
    · iexists ((st0_5 t).view.read (Elt F) _); isplitr
      rotate_left
      · iapply (pt_owns c (st0_5 t) h5 _); iexact H5
      · ipureintro; exact hW.2.2.1
    isplitl [H6]
    · iexists ((st0_6 t).view.read (Elt F) _); isplitr
      rotate_left
      · iapply (pt_owns c (st0_6 t) h6 _); iexact H6
      · ipureintro; exact hW.2.2.2.1
    isplitl [H7]
    · iexists ((st0_7 t).view.read (Elt F) _); isplitr
      rotate_left
      · iapply (pt_owns c (st0_7 t) h7 _); iexact H7
      · ipureintro; exact hW.2.2.2.2.1
    · iexists ((st0_8 t).view.read (Elt F) _); isplitr
      rotate_left
      · iapply (pt_owns c (st0_8 t) h8 _); iexact H8
      · ipureintro; exact hW.2.2.2.2.2.1
  · have hW := hN c 𝒱₀ t hc1 hc2 (st0_0 t) h0 (st0_1 t) h1 (st0_2 t) h2 (st0_3 t) h3 (st0_4 t) h4 (st0_5 t) h5 (st0_6 t) h6 (st0_7 t) h7 (st0_8 t) h8 (h0.unread (Y 0)) (h1.unread (Y 1)) (h2.unread (Y 2)) (h3.unread (Y 3)) (h4.unread (Y 4)) (h5.unread (Y 5)) (h6.unread (Y 6)) (h7.unread (Y 7)) (h8.unread (Y 8)) D fA (hH D hD)
    iapply ((runNext c 𝒱₀ (grid0.coords t) hc1 hc2 (st0_0 t) h0 (st0_1 t) h1 (st0_2 t) h2 (st0_3 t) h3 (st0_4 t) h4 (st0_5 t) h5 (st0_6 t) h6 (st0_7 t) h7 (st0_8 t) h8 mDeq (Memref.isWhole_whole _) mAcc (Memref.isWhole_whole _) (h0.unread (Y 0)) (h1.unread (Y 1)) (h2.unread (Y 2)) (h3.unread (Y 3)) (h4.unread (Y 4)) (h5.unread (Y 5)) (h6.unread (Y 6)) (h7.unread (Y 7)) (h8.unread (Y 8)) D fA).2 _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HD]; · iexact HD
    isplitl [HA]; · iexact HA
    iintro ⟨H0, H1, H2, H3, H4, H5, H6, H7, H8, HD, HA⟩
    isplitl [HD HA Hρ]
    · isplitl [HD]
      · iexists _; isplitr; · ipureintro; exact hW.2.2.2.2.2.2
        iexact HD
      isplitl [HA]; · iexists _; iexact HA
      iexact Hρ
    isplitl [Ho]
    · iexists Wo; isplitr; · ipureintro; exact fun _ _ => Or.inl trivial
      iexact Ho
    isplitl [H0]
    · iexists ((st0_0 t).view.read (Elt F) _); isplitr
      rotate_left
      · iapply (pt_owns c (st0_0 t) h0 _); iexact H0
      · ipureintro; exact h0.read_unread (Y 0)
    isplitl [H1]
    · iexists ((st0_1 t).view.read (Elt F) _); isplitr
      rotate_left
      · iapply (pt_owns c (st0_1 t) h1 _); iexact H1
      · ipureintro; exact h1.read_unread (Y 1)
    isplitl [H2]
    · iexists ((st0_2 t).view.read (Elt F) _); isplitr
      rotate_left
      · iapply (pt_owns c (st0_2 t) h2 _); iexact H2
      · ipureintro; exact h2.read_unread (Y 2)
    isplitl [H3]
    · iexists ((st0_3 t).view.read (Elt F) _); isplitr
      rotate_left
      · iapply (pt_owns c (st0_3 t) h3 _); iexact H3
      · ipureintro; exact hW.1
    isplitl [H4]
    · iexists ((st0_4 t).view.read (Elt F) _); isplitr
      rotate_left
      · iapply (pt_owns c (st0_4 t) h4 _); iexact H4
      · ipureintro; exact hW.2.1
    isplitl [H5]
    · iexists ((st0_5 t).view.read (Elt F) _); isplitr
      rotate_left
      · iapply (pt_owns c (st0_5 t) h5 _); iexact H5
      · ipureintro; exact hW.2.2.1
    isplitl [H6]
    · iexists ((st0_6 t).view.read (Elt F) _); isplitr
      rotate_left
      · iapply (pt_owns c (st0_6 t) h6 _); iexact H6
      · ipureintro; exact hW.2.2.2.1
    isplitl [H7]
    · iexists ((st0_7 t).view.read (Elt F) _); isplitr
      rotate_left
      · iapply (pt_owns c (st0_7 t) h7 _); iexact H7
      · ipureintro; exact hW.2.2.2.2.1
    · iexists ((st0_8 t).view.read (Elt F) _); isplitr
      rotate_left
      · iapply (pt_owns c (st0_8 t) h8 _); iexact H8
      · ipureintro; exact hW.2.2.2.2.2.1

end Cert.Kernel.Proof

end
-- ==== Proof.Printed.Run.lean ====
/-
  The run of the whole program, given that the body keeps a track; and, from the track that says nothing, the frame:
  the program runs, leaves its arguments as they were and no semaphore raised.
-/
module

public import proofs.«01_k».proof.Proof.Printed.Pipeline
public import Idealize.ShloMosaic.Lib.Pipeline.ArrRel

@[expose] public section

set_option maxRecDepth 16384

noncomputable section

namespace Cert.Kernel.Proof

open Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole program runs: every array ends as the track allows, and no semaphore is left raised. -/
theorem run (T : Track F) (hF : KeepsFirst m T) (hN : KeepsNext m T) (h0 : ∀ D, T.deq 0 D) :
    θ_run defs (onTc (τ := τ) (main (F := F))) (s₀ m ρ)
      (fun r => RDat.FramePost cfg0 (fun c => rdat m T c) (V m) r ∧ r.2.sem = fun _ => 0) :=
  RDat.θ_run_frame_track cfgs 0 launch0 defs₀ Variants.none (fun c => rdat m T c) m ρ main
    (fun c => body_obligation m T hF hN _ c) (fun c w => (rdat m T c).share_full (fun _ => rfl) w) (fun _ _ => rfl) (V m) (hmain m _)
    (fun _ _ => rfl)
    (fun c => by
      show Pipeline.ΦA spec0 c ⊢ iprop((∃ D : Bf (F := F) c mDeq, ⌜T.deq 0 D⌝ ∗ pt c mDeq D)
        ∗ (∃ f : Bf (F := F) c mAcc, pt c mAcc f) ∗ ∃ r, prngReg c r)
      unfold Pipeline.ΦA
      rw [scopedRest0_eq]
      iintro ⟨⟨⟨%D, HD⟩, %f, HA⟩, Hρ⟩
      isplitl [HD]
      · iexists D; isplitr; · ipureintro; exact h0 D
        iexact HD
      isplitl [HA]; · iexists f; iexact HA
      iexact Hρ)
    (fun c => by
      show iprop((∃ D : Bf (F := F) c mDeq, ⌜T.deq (Fin.last cfg0.N) D⌝ ∗ pt c mDeq D)
        ∗ (∃ f : Bf (F := F) c mAcc, pt c mAcc f) ∗ ∃ r, prngReg c r) ⊢ Pipeline.ΦA spec0 c
      unfold Pipeline.ΦA
      rw [scopedRest0_eq]
      iintro ⟨⟨%D, -, HD⟩, ⟨%f, HA⟩, Hρ⟩
      isplitl [HD HA]
      · isplitl [HD]
        · iexists D; iexact HD
        · iexists f; iexact HA
      iexact Hρ)
    (Q' := _)

/-- The track that says nothing. -/
def Track.trivial : Track F where
  r3 _ _ := True
  r4 _ _ := True
  r5 _ _ := True
  r6 _ _ := True
  r7 _ _ := True
  r8 _ _ := True
  deq _ _ := True

/-- The arguments after a run are the arguments before it. -/
theorem args_of_post (T : Track F) (r : PUnit × MemSt nD τ sig (Elt F)) (h : RDat.FramePost cfg0 (fun c => rdat m T c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
   (RDat.FramePost.arr_in h c 2 rfl).trans (V_main_arg1 m c),
   (RDat.FramePost.arr_in h c 0 rfl).trans (V_main_arg2 m c)⟩

/-- The program runs, leaves its arguments as they were, and leaves no semaphore raised. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨args_of_post m Track.trivial r h.1, h.2⟩)
    (run m ρ Track.trivial (fun _ _ _ _ _ _ _ _ _ _ _ _ _ _ _ _ _ _ _ _ _ _ _ _ _ _ _ _ _ _ _ _ _ _ _ => ⟨trivial, trivial, trivial, trivial, trivial, trivial, trivial⟩)
      (fun _ _ _ _ _ _ _ _ _ _ _ _ _ _ _ _ _ _ _ _ _ _ _ _ _ _ _ _ _ _ _ _ _ _ _ => ⟨trivial, trivial, trivial, trivial, trivial, trivial, trivial⟩) (fun _ => trivial))

end Cert.Kernel.Proof

end
-- ==== Proof.RunFirst.lean ====
/-
  The kernel body at a grid point of the first row block (`i = 0`), run once: it quantises one chunk of `dy` and does
  nothing else.
-/
module

public import proofs.«01_k».proof.Proof.Gen.KernelIdeal.Frame
public import proofs.«01_k».proof.Proof.Gen.KernelIdeal.Skeleton

@[expose] public section

set_option maxRecDepth 16384

noncomputable section

namespace Cert.KernelIdeal.Proof

open Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer held whole at `f`. -/
abbrev pt (c : Dev nD) {sp : Space} {S : Shape} {e : EltTy} (M : Memref sig .tc sp S e) (f : Bf (F := F) c M) : sProp 𝕄 :=
  M.view.loc (c : Thread nD τ) ↦{fullShare} f

/-- What the body leaves in the buffers of the `dy` codes, the `dy` scales and the dequantised rows at `i = 0`, with
    its run. -/
noncomputable def runFirst (c : Dev nD) (𝒱₀ : Variants) (i : grid0.Coords) (hc1 : k0_cond1 i = 1#1) (hc2 : ¬ k0_cond2 i = 1#1)
    (M2 : Memref sig .tc .smem S48x128 .f32) (h2 : M2.IsWhole) (M3 : Memref sig .tc .vmem S512x2048 .bf16) (h3 : M3.IsWhole)
    (M4 : Memref sig .tc .vmem S512x16384 .fp8e4m3) (h4 : M4.IsWhole) (M5 : Memref sig .tc .vmem S512x512 .fp8e4m3) (h5 : M5.IsWhole)
    (M6 : Memref sig .tc .vmem S512x48 .f32) (h6 : M6.IsWhole) (M7 : Memref sig .tc .vmem S512x512 .fp8e4m3) (h7 : M7.IsWhole)
    (M8 : Memref sig .tc .vmem S1x4x512 .f32) (h8 : M8.IsWhole) (M9 : Memref sig .tc .vmem S512x2048 .fp8e4m3) (h9 : M9.IsWhole)
    (M10 : Memref sig .tc .vmem S512x128 .f32) (h10 : M10.IsWhole) (M11 : Memref sig .tc .vmem S2x512x16384 .bf16) (h11 : M11.IsWhole)
    (M12 : Memref sig .tc .vmem S512x512 .f32) (h12 : M12.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10) (f11 : Bf (F := F) c M11)
    (f12 : Bf (F := F) c M12) :
    { W : Bf (F := F) c M9 × Bf (F := F) c M10 × Bf (F := F) c M11 //
      ∀ (E : Set ℕ) (Q : PUnit → sProp 𝕄),
        iprop(pt c M2 f2 ∗ pt c M3 f3 ∗ pt c M4 f4 ∗ pt c M5 f5 ∗ pt c M6 f6 ∗ pt c M7 f7
          ∗ pt c M8 f8 ∗ pt c M9 f9 ∗ pt c M10 f10 ∗ pt c M11 f11 ∗ pt c M12 f12
          ∗ (iprop(pt c M2 f2 ∗ pt c M3 f3 ∗ pt c M4 f4 ∗ pt c M5 f5 ∗ pt c M6 f6 ∗ pt c M7 f7
              ∗ pt c M8 f8 ∗ pt c M9 W.1 ∗ pt c M10 W.2.1 ∗ pt c M11 W.2.2 ∗ pt c M12 f12) -∗ Q ⟨⟩))
        ⊢ wp frame (wpE (defs₀ (F := F)) 𝒱₀ c none) E
            (cc0_dgrad_requant i M2 h2 M3 h3 M4 h4 M5 h5 M6 h6 M7 h7 M8 h8 M9 h9 M10 h10 M11 h11 M12 h12) Q } := by
  refine ⟨⟨?_, ?_, ?_⟩, fun E Q => ?run⟩
  case run =>
    iintro ⟨H2, H3, H4, H5, H6, H7, H8, H9, H10, H11, H12, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Cert.KernelIdeal.Proof

end
-- ==== Proof.RunNext.lean ====
/-
  The kernel body at a grid point past the first row block (`i > 0`), run once: it quantises one chunk of `dy`, forms a
  tile of the product for the row block before, and requantises it by rows and by columns.
-/
module

public import proofs.«01_k».proof.Proof.RunFirst

@[expose] public section

set_option maxRecDepth 16384

noncomputable section

namespace Cert.KernelIdeal.Proof

open Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body leaves in the six results' buffers and its two scratch buffers at `i > 0`, with its run. -/
noncomputable def runNext (c : Dev nD) (𝒱₀ : Variants) (i : grid0.Coords) (hc1 : ¬ k0_cond1 i = 1#1) (hc2 : k0_cond2 i = 1#1)
    (M2 : Memref sig .tc .smem S48x128 .f32) (h2 : M2.IsWhole) (M3 : Memref sig .tc .vmem S512x2048 .bf16) (h3 : M3.IsWhole)
    (M4 : Memref sig .tc .vmem S512x16384 .fp8e4m3) (h4 : M4.IsWhole) (M5 : Memref sig .tc .vmem S512x512 .fp8e4m3) (h5 : M5.IsWhole)
    (M6 : Memref sig .tc .vmem S512x48 .f32) (h6 : M6.IsWhole) (M7 : Memref sig .tc .vmem S512x512 .fp8e4m3) (h7 : M7.IsWhole)
    (M8 : Memref sig .tc .vmem S1x4x512 .f32) (h8 : M8.IsWhole) (M9 : Memref sig .tc .vmem S512x2048 .fp8e4m3) (h9 : M9.IsWhole)
    (M10 : Memref sig .tc .vmem S512x128 .f32) (h10 : M10.IsWhole) (M11 : Memref sig .tc .vmem S2x512x16384 .bf16) (h11 : M11.IsWhole)
    (M12 : Memref sig .tc .vmem S512x512 .f32) (h12 : M12.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10) (f11 : Bf (F := F) c M11)
    (f12 : Bf (F := F) c M12) :
    { W : Bf (F := F) c M5 × Bf (F := F) c M6 × Bf (F := F) c M7 × Bf (F := F) c M8 × Bf (F := F) c M9 × Bf (F := F) c M10
          × Bf (F := F) c M11 × Bf (F := F) c M12 //
      ∀ (E : Set ℕ) (Q : PUnit → sProp 𝕄),
        iprop(pt c M2 f2 ∗ pt c M3 f3 ∗ pt c M4 f4 ∗ pt c M5 f5 ∗ pt c M6 f6 ∗ pt c M7 f7
          ∗ pt c M8 f8 ∗ pt c M9 f9 ∗ pt c M10 f10 ∗ pt c M11 f11 ∗ pt c M12 f12
          ∗ (iprop(pt c M2 f2 ∗ pt c M3 f3 ∗ pt c M4 f4 ∗ pt c M5 W.1 ∗ pt c M6 W.2.1 ∗ pt c M7 W.2.2.1
              ∗ pt c M8 W.2.2.2.1 ∗ pt c M9 W.2.2.2.2.1 ∗ pt c M10 W.2.2.2.2.2.1 ∗ pt c M11 W.2.2.2.2.2.2.1
              ∗ pt c M12 W.2.2.2.2.2.2.2) -∗ Q ⟨⟩))
        ⊢ wp frame (wpE (defs₀ (F := F)) 𝒱₀ c none) E
            (cc0_dgrad_requant i M2 h2 M3 h3 M4 h4 M5 h5 M6 h6 M7 h7 M8 h8 M9 h9 M10 h10 M11 h11 M12 h12) Q } := by
  refine ⟨⟨?_, ?_, ?_, ?_, ?_, ?_, ?_, ?_⟩, fun E Q => ?run⟩
  case run =>
    iintro ⟨H2, H3, H4, H5, H6, H7, H8, H9, H10, H11, H12, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Cert.KernelIdeal.Proof

end
-- ==== Proof.Pipeline.lean ====
/-
  The pipeline around the body. A `Track` says what is known of each staging buffer the body leaves and of the
  dequantised rows carried from point to point; if one run of the body (`RunFirst`, `RunNext`) keeps it, the whole
  program runs, and every array ends as the track allows.
-/
module

public import proofs.«01_k».proof.Proof.RunFirst
public import proofs.«01_k».proof.Proof.RunNext

@[expose] public section

set_option maxRecDepth 16384

noncomputable section

namespace Cert.KernelIdeal.Proof

open Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two branches of the body exclude each other and one of them is taken. -/
theorem cond_cases (i : grid0.Coords) :
    ((i 0).val = 0 ∧ k0_cond1 i = 1#1 ∧ ¬ k0_cond2 i = 1#1) ∨ ((i 0).val ≠ 0 ∧ ¬ k0_cond1 i = 1#1 ∧ k0_cond2 i = 1#1) := by
  unfold k0_cond1 k0_cond2
  generalize i 0 = a
  revert a
  decide +kernel

/-- What is known of the six results' staging buffers after the body at a point (`r3` … `r8`), and of the dequantised
    rows before a point (`deq`). -/
structure Track (F : FTy → Type) [FloatOps F] where
  r3 : Fin cfg0.N → Vec F S512x512 .fp8e4m3 → Prop
  r4 : Fin cfg0.N → Vec F S512x48 .f32 → Prop
  r5 : Fin cfg0.N → Vec F S512x512 .fp8e4m3 → Prop
  r6 : Fin cfg0.N → Vec F S1x4x512 .f32 → Prop
  r7 : Fin cfg0.N → Vec F S512x2048 .fp8e4m3 → Prop
  r8 : Fin cfg0.N → Vec F S512x128 .f32 → Prop
  deq : Fin (cfg0.N + 1) → Vec F S2x512x16384 .bf16 → Prop

/-- The scratch holding the dequantised rows, two row blocks of them, -/
abbrev mDeq : Memref sig .tc .vmem S2x512x16384 .bf16 := Memref.whole cc0_scratch0
/-- and the accumulator. -/
abbrev mAcc : Memref sig .tc .vmem S512x512 .f32 := Memref.whole cc0_scratch1

/-- The relational proof data: an operand's staging buffer stays as found, a result's meets the track. -/
def rdat (T : Track F) (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun _ X => T.r3 t X
    | ⟨4, _⟩ => fun _ X => T.r4 t X
    | ⟨5, _⟩ => fun _ X => T.r5 t X
    | ⟨6, _⟩ => fun _ X => T.r6 t X
    | ⟨7, _⟩ => fun _ X => T.r7 t X
    | ⟨8, _⟩ => fun _ X => T.r8 t X
  Φ t := iprop((∃ D : Bf (F := F) c mDeq, ⌜T.deq t D⌝ ∗ pt c mDeq D) ∗ (∃ f : Bf (F := F) c mAcc, pt c mAcc f) ∗ ∃ r, prngReg c r)
  q _ := fullShare
  owed _ := 0

/-- What the body is handed at point `t`, and what it is known to hold. -/
structure Handed (T : Track F) (c : Dev nD) (t : Fin cfg0.N)
    (M2 : Memref sig .tc .smem S48x128 .f32) (M3 : Memref sig .tc .vmem S512x2048 .bf16)
    (M4 : Memref sig .tc .vmem S512x16384 .fp8e4m3) (M5 : Memref sig .tc .vmem S512x512 .fp8e4m3)
    (M6 : Memref sig .tc .vmem S512x48 .f32) (M7 : Memref sig .tc .vmem S512x512 .fp8e4m3)
    (M8 : Memref sig .tc .vmem S1x4x512 .f32) (M9 : Memref sig .tc .vmem S512x2048 .fp8e4m3)
    (M10 : Memref sig .tc .vmem S512x128 .f32)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10) (D : Bf (F := F) c mDeq) : Prop where
  y2 : M2.view.read (Elt F) f2 = iblk m c 0 t
  y3 : M3.view.read (Elt F) f3 = iblk m c 1 t
  y4 : M4.view.read (Elt F) f4 = iblk m c 2 t
  y5 : (rdat m T c).Finds 3 t (M5.view.read (Elt F) f5)
  y6 : (rdat m T c).Finds 4 t (M6.view.read (Elt F) f6)
  y7 : (rdat m T c).Finds 5 t (M7.view.read (Elt F) f7)
  y8 : (rdat m T c).Finds 6 t (M8.view.read (Elt F) f8)
  y9 : (rdat m T c).Finds 7 t (M9.view.read (Elt F) f9)
  y10 : (rdat m T c).Finds 8 t (M10.view.read (Elt F) f10)
  deq : T.deq t.castSucc D

/-- The body at a point of the first row block keeps the track. -/
def KeepsFirst (T : Track F) : Prop :=
  ∀ (c : Dev nD) (𝒱₀ : Variants) (t : Fin cfg0.N) (hc1 : k0_cond1 (grid0.coords t) = 1#1) (hc2 : ¬ k0_cond2 (grid0.coords t) = 1#1)
    (M2 : Memref sig .tc .smem S48x128 .f32) (h2 : M2.IsWhole) (M3 : Memref sig .tc .vmem S512x2048 .bf16) (h3 : M3.IsWhole)
    (M4 : Memref sig .tc .vmem S512x16384 .fp8e4m3) (h4 : M4.IsWhole) (M5 : Memref sig .tc .vmem S512x512 .fp8e4m3) (h5 : M5.IsWhole)
    (M6 : Memref sig .tc .vmem S512x48 .f32) (h6 : M6.IsWhole) (M7 : Memref sig .tc .vmem S512x512 .fp8e4m3) (h7 : M7.IsWhole)
    (M8 : Memref sig .tc .vmem S1x4x512 .f32) (h8 : M8.IsWhole) (M9 : Memref sig .tc .vmem S512x2048 .fp8e4m3) (h9 : M9.IsWhole)
    (M10 : Memref sig .tc .vmem S512x128 .f32) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10) (D : Bf (F := F) c mDeq)
    (f12 : Bf (F := F) c mAcc),
    Handed m T c t M2 M3 M4 M5 M6 M7 M8 M9 M10 f2 f3 f4 f5 f6 f7 f8 f9 f10 D →
    let W := (runFirst c 𝒱₀ (grid0.coords t) hc1 hc2 M2 h2 M3 h3 M4 h4 M5 h5 M6 h6 M7 h7 M8 h8 M9 h9 M10 h10 mDeq (Memref.isWhole_whole _)
      mAcc (Memref.isWhole_whole _) f2 f3 f4 f5 f6 f7 f8 f9 f10 D f12).1
    T.r3 t (M5.view.read (Elt F) f5) ∧ T.r4 t (M6.view.read (Elt F) f6) ∧ T.r5 t (M7.view.read (Elt F) f7)
      ∧ T.r6 t (M8.view.read (Elt F) f8) ∧ T.r7 t (M9.view.read (Elt F) W.1) ∧ T.r8 t (M10.view.read (Elt F) W.2.1)
      ∧ T.deq t.succ W.2.2

/-- The body at a point past the first row block keeps the track. -/
def KeepsNext (T : Track F) : Prop :=
  ∀ (c : Dev nD) (𝒱₀ : Variants) (t : Fin cfg0.N) (hc1 : ¬ k0_cond1 (grid0.coords t) = 1#1) (hc2 : k0_cond2 (grid0.coords t) = 1#1)
    (M2 : Memref sig .tc .smem S48x128 .f32) (h2 : M2.IsWhole) (M3 : Memref sig .tc .vmem S512x2048 .bf16) (h3 : M3.IsWhole)
    (M4 : Memref sig .tc .vmem S512x16384 .fp8e4m3) (h4 : M4.IsWhole) (M5 : Memref sig .tc .vmem S512x512 .fp8e4m3) (h5 : M5.IsWhole)
    (M6 : Memref sig .tc .vmem S512x48 .f32) (h6 : M6.IsWhole) (M7 : Memref sig .tc .vmem S512x512 .fp8e4m3) (h7 : M7.IsWhole)
    (M8 : Memref sig .tc .vmem S1x4x512 .f32) (h8 : M8.IsWhole) (M9 : Memref sig .tc .vmem S512x2048 .fp8e4m3) (h9 : M9.IsWhole)
    (M10 : Memref sig .tc .vmem S512x128 .f32) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10) (D : Bf (F := F) c mDeq)
    (f12 : Bf (F := F) c mAcc),
    Handed m T c t M2 M3 M4 M5 M6 M7 M8 M9 M10 f2 f3 f4 f5 f6 f7 f8 f9 f10 D →
    let W := (runNext c 𝒱₀ (grid0.coords t) hc1 hc2 M2 h2 M3 h3 M4 h4 M5 h5 M6 h6 M7 h7 M8 h8 M9 h9 M10 h10 mDeq (Memref.isWhole_whole _)
      mAcc (Memref.isWhole_whole _) f2 f3 f4 f5 f6 f7 f8 f9 f10 D f12).1
    T.r3 t (M5.view.read (Elt F) W.1) ∧ T.r4 t (M6.view.read (Elt F) W.2.1) ∧ T.r5 t (M7.view.read (Elt F) W.2.2.1)
      ∧ T.r6 t (M8.view.read (Elt F) W.2.2.2.1) ∧ T.r7 t (M9.view.read (Elt F) W.2.2.2.2.1) ∧ T.r8 t (M10.view.read (Elt F) W.2.2.2.2.2.1)
      ∧ T.deq t.succ W.2.2.2.2.2.2.1

omit [FloatOps F] in
/-- A whole memref owned at `X` is its buffer held whole at contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  unfold owns pt
  iintro ⟨%f, %hf, H⟩
  obtain rfl := h.eq_unread hf
  rw [h.set_eq_univ]
  iexact H

omit [FloatOps F] in
/-- A whole memref's buffer held whole is the memref owned at what it reads. -/
theorem pt_owns (c : Dev nD) {sp : Space} {S : Shape} {e : EltTy} (M : Memref sig .tc sp S e) (h : M.IsWhole) (f : Bf (F := F) c M) :
    pt c M f ⊢ (owns (c : Thread nD τ) M fullShare (M.view.read (Elt F) f) : sProp 𝕄) := by
  unfold owns pt
  iintro H
  iexists _; isplitr; · ipureintro; rfl
  rw [h.set_eq_univ]
  iexact H

theorem defs₀_row (t : Fin cfg0.N) : defs₀ (F := F) .tc cfg0.body (cfg0.bodyArgs t (cfg0.slots t)) = bodyAt0 t := by
  unfold defs₀; rw [Defs.onTc_tc]

/-- An operand's staging buffer holds its block at every point. -/
theorem finds0 (T : Track F) (c : Dev nD) (t : Fin cfg0.N) (Y) (h : (rdat m T c).Finds 0 t Y) : Y = iblk m c 0 t := by
  obtain ⟨d, rfl⟩ := (rdat m T c).finds_in_eq_fetched 0 rfl (fun _ _ _ => rfl) (fun _ _ _ h => h) t Y h; rfl
@[inherit_doc finds0]
theorem finds1 (T : Track F) (c : Dev nD) (t : Fin cfg0.N) (Y) (h : (rdat m T c).Finds 1 t Y) : Y = iblk m c 1 t := by
  obtain ⟨d, rfl⟩ := (rdat m T c).finds_in_eq_fetched 1 rfl (fun _ _ _ => rfl) (fun _ _ _ h => h) t Y h; rfl
@[inherit_doc finds0]
theorem finds2 (T : Track F) (c : Dev nD) (t : Fin cfg0.N) (Y) (h : (rdat m T c).Finds 2 t Y) : Y = iblk m c 2 t := by
  obtain ⟨d, rfl⟩ := (rdat m T c).finds_in_eq_fetched 2 rfl (fun _ _ _ => rfl) (fun _ _ _ h => h) t Y h; rfl

/-- The body obligation of the pipeline: one run of the body, in either case, keeps the track. -/
theorem body_obligation (T : Track F) (hF : KeepsFirst m T) (hN : KeepsNext m T) (𝒱₀ : Variants) (c : Dev nD) :
    (rdat m T c).BodyObligation (defs₀ (F := F)) 𝒱₀ () Set.univ := by
  intro t Y hY
  rw [bigSep_W0, bigSep_W0, defs₀_row]
  have e0 := finds0 m T c t _ (hY 0)
  have e1 := finds1 m T c t _ (hY 1)
  have e2 := finds2 m T c t _ (hY 2)
  have h0 : (st0_0 t).IsWhole := hstage0_0 ((cfg0.slots t 0).cast nbuf0_0)
  have h1 : (st0_1 t).IsWhole := hstage0_1 ((cfg0.slots t 1).cast nbuf0_1)
  have h2 : (st0_2 t).IsWhole := hstage0_2 ((cfg0.slots t 2).cast nbuf0_2)
  have h3 : (st0_3 t).IsWhole := hstage0_3 ((cfg0.slots t 3).cast nbuf0_3)
  have h4 : (st0_4 t).IsWhole := hstage0_4 ((cfg0.slots t 4).cast nbuf0_4)
  have h5 : (st0_5 t).IsWhole := hstage0_5 ((cfg0.slots t 5).cast nbuf0_5)
  have h6 : (st0_6 t).IsWhole := hstage0_6 ((cfg0.slots t 6).cast nbuf0_6)
  have h7 : (st0_7 t).IsWhole := hstage0_7 ((cfg0.slots t 7).cast nbuf0_7)
  have h8 : (st0_8 t).IsWhole := hstage0_8 ((cfg0.slots t 8).cast nbuf0_8)
  have hH (D : Bf (F := F) c mDeq) (hD : T.deq t.castSucc D) : Handed m T c t (st0_0 t) (st0_1 t) (st0_2 t) (st0_3 t) (st0_4 t) (st0_5 t) (st0_6 t) (st0_7 t) (st0_8 t) (h0.unread (Y 0)) (h1.unread (Y 1)) (h2.unread (Y 2)) (h3.unread (Y 3)) (h4.unread (Y 4)) (h5.unread (Y 5)) (h6.unread (Y 6)) (h7.unread (Y 7)) (h8.unread (Y 8)) D := by
    constructor
    all_goals first | exact hD | skip
    · rw [h0.read_unread]; exact e0
    · rw [h1.read_unread]; exact e1
    · rw [h2.read_unread]; exact e2
    · rw [h3.read_unread]; exact hY 3
    · rw [h4.read_unread]; exact hY 4
    · rw [h5.read_unread]; exact hY 5
    · rw [h6.read_unread]; exact hY 6
    · rw [h7.read_unread]; exact hY 7
    · rw [h8.read_unread]; exact hY 8
  unfold RDat.owesAt Pipeline.owesWithin bodyAt0
  have hΦ (u : Fin (cfg0.N + 1)) : (rdat m T c).Φ u = iprop((∃ D : Bf (F := F) c mDeq, ⌜T.deq u D⌝ ∗ pt c mDeq D)
    ∗ (∃ f : Bf (F := F) c mAcc, pt c mAcc f) ∗ ∃ r, prngReg c r) := rfl
  rw [hΦ, hΦ]
  iintro ⟨⟨⟨%D, %hD, HD⟩, ⟨%fA, HA⟩, Hρ⟩, ⟨%Wo, -, Ho⟩, H0, H1, H2, H3, H4, H5, H6, H7, H8⟩
  ihave H0 := (owns_pt c (st0_0 t) h0 (Y 0)) $$ H0
  ihave H1 := (owns_pt c (st0_1 t) h1 (Y 1)) $$ H1
  ihave H2 := (owns_pt c (st0_2 t) h2 (Y 2)) $$ H2
  ihave H3 := (owns_pt c (st0_3 t) h3 (Y 3)) $$ H3
  ihave H4 := (owns_pt c (st0_4 t) h4 (Y 4)) $$ H4
  ihave H5 := (owns_pt c (st0_5 t) h5 (Y 5)) $$ H5
  ihave H6 := (owns_pt c (st0_6 t) h6 (Y 6)) $$ H6
  ihave H7 := (owns_pt c (st0_7 t) h7 (Y 7)) $$ H7
  ihave H8 := (owns_pt c (st0_8 t) h8 (Y 8)) $$ H8
  obtain ⟨-, hc1, hc2⟩ | ⟨-, hc1, hc2⟩ := cond_cases (grid0.coords t)
  · have hW := hF c 𝒱₀ t hc1 hc2 (st0_0 t) h0 (st0_1 t) h1 (st0_2 t) h2 (st0_3 t) h3 (st0_4 t) h4 (st0_5 t) h5 (st0_6 t) h6 (st0_7 t) h7 (st0_8 t) h8 (h0.unread (Y 0)) (h1.unread (Y 1)) (h2.unread (Y 2)) (h3.unread (Y 3)) (h4.unread (Y 4)) (h5.unread (Y 5)) (h6.unread (Y 6)) (h7.unread (Y 7)) (h8.unread (Y 8)) D fA (hH D hD)
    iapply ((runFirst c 𝒱₀ (grid0.coords t) hc1 hc2 (st0_0 t) h0 (st0_1 t) h1 (st0_2 t) h2 (st0_3 t) h3 (st0_4 t) h4 (st0_5 t) h5 (st0_6 t) h6 (st0_7 t) h7 (st0_8 t) h8 mDeq (Memref.isWhole_whole _) mAcc (Memref.isWhole_whole _) (h0.unread (Y 0)) (h1.unread (Y 1)) (h2.unread (Y 2)) (h3.unread (Y 3)) (h4.unread (Y 4)) (h5.unread (Y 5)) (h6.unread (Y 6)) (h7.unread (Y 7)) (h8.unread (Y 8)) D fA).2 _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HD]; · iexact HD
    isplitl [HA]; · iexact HA
    iintro ⟨H0, H1, H2, H3, H4, H5, H6, H7, H8, HD, HA⟩
    isplitl [HD HA Hρ]
    · isplitl [HD]
      · iexists _; isplitr; · ipureintro; exact hW.2.2.2.2.2.2
        iexact HD
      isplitl [HA]; · iexists _; iexact HA
      iexact Hρ
    isplitl [Ho]
    · iexists Wo; isplitr; · ipureintro; exact fun _ _ => Or.inl trivial
      iexact Ho
    isplitl [H0]
    · iexists ((st0_0 t).view.read (Elt F) _); isplitr
      rotate_left
      · iapply (pt_owns c (st0_0 t) h0 _); iexact H0
      · ipureintro; exact h0.read_unread (Y 0)
    isplitl [H1]
    · iexists ((st0_1 t).view.read (Elt F) _); isplitr
      rotate_left
      · iapply (pt_owns c (st0_1 t) h1 _); iexact H1
      · ipureintro; exact h1.read_unread (Y 1)
    isplitl [H2]
    · iexists ((st0_2 t).view.read (Elt F) _); isplitr
      rotate_left
      · iapply (pt_owns c (st0_2 t) h2 _); iexact H2
      · ipureintro; exact h2.read_unread (Y 2)
    isplitl [H3]
    · iexists ((st0_3 t).view.read (Elt F) _); isplitr
      rotate_left
      · iapply (pt_owns c (st0_3 t) h3 _); iexact H3
      · ipureintro; exact hW.1
    isplitl [H4]
    · iexists ((st0_4 t).view.read (Elt F) _); isplitr
      rotate_left
      · iapply (pt_owns c (st0_4 t) h4 _); iexact H4
      · ipureintro; exact hW.2.1
    isplitl [H5]
    · iexists ((st0_5 t).view.read (Elt F) _); isplitr
      rotate_left
      · iapply (pt_owns c (st0_5 t) h5 _); iexact H5
      · ipureintro; exact hW.2.2.1
    isplitl [H6]
    · iexists ((st0_6 t).view.read (Elt F) _); isplitr
      rotate_left
      · iapply (pt_owns c (st0_6 t) h6 _); iexact H6
      · ipureintro; exact hW.2.2.2.1
    isplitl [H7]
    · iexists ((st0_7 t).view.read (Elt F) _); isplitr
      rotate_left
      · iapply (pt_owns c (st0_7 t) h7 _); iexact H7
      · ipureintro; exact hW.2.2.2.2.1
    · iexists ((st0_8 t).view.read (Elt F) _); isplitr
      rotate_left
      · iapply (pt_owns c (st0_8 t) h8 _); iexact H8
      · ipureintro; exact hW.2.2.2.2.2.1
  · have hW := hN c 𝒱₀ t hc1 hc2 (st0_0 t) h0 (st0_1 t) h1 (st0_2 t) h2 (st0_3 t) h3 (st0_4 t) h4 (st0_5 t) h5 (st0_6 t) h6 (st0_7 t) h7 (st0_8 t) h8 (h0.unread (Y 0)) (h1.unread (Y 1)) (h2.unread (Y 2)) (h3.unread (Y 3)) (h4.unread (Y 4)) (h5.unread (Y 5)) (h6.unread (Y 6)) (h7.unread (Y 7)) (h8.unread (Y 8)) D fA (hH D hD)
    iapply ((runNext c 𝒱₀ (grid0.coords t) hc1 hc2 (st0_0 t) h0 (st0_1 t) h1 (st0_2 t) h2 (st0_3 t) h3 (st0_4 t) h4 (st0_5 t) h5 (st0_6 t) h6 (st0_7 t) h7 (st0_8 t) h8 mDeq (Memref.isWhole_whole _) mAcc (Memref.isWhole_whole _) (h0.unread (Y 0)) (h1.unread (Y 1)) (h2.unread (Y 2)) (h3.unread (Y 3)) (h4.unread (Y 4)) (h5.unread (Y 5)) (h6.unread (Y 6)) (h7.unread (Y 7)) (h8.unread (Y 8)) D fA).2 _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HD]; · iexact HD
    isplitl [HA]; · iexact HA
    iintro ⟨H0, H1, H2, H3, H4, H5, H6, H7, H8, HD, HA⟩
    isplitl [HD HA Hρ]
    · isplitl [HD]
      · iexists _; isplitr; · ipureintro; exact hW.2.2.2.2.2.2
        iexact HD
      isplitl [HA]; · iexists _; iexact HA
      iexact Hρ
    isplitl [Ho]
    · iexists Wo; isplitr; · ipureintro; exact fun _ _ => Or.inl trivial
      iexact Ho
    isplitl [H0]
    · iexists ((st0_0 t).view.read (Elt F) _); isplitr
      rotate_left
      · iapply (pt_owns c (st0_0 t) h0 _); iexact H0
      · ipureintro; exact h0.read_unread (Y 0)
    isplitl [H1]
    · iexists ((st0_1 t).view.read (Elt F) _); isplitr
      rotate_left
      · iapply (pt_owns c (st0_1 t) h1 _); iexact H1
      · ipureintro; exact h1.read_unread (Y 1)
    isplitl [H2]
    · iexists ((st0_2 t).view.read (Elt F) _); isplitr
      rotate_left
      · iapply (pt_owns c (st0_2 t) h2 _); iexact H2
      · ipureintro; exact h2.read_unread (Y 2)
    isplitl [H3]
    · iexists ((st0_3 t).view.read (Elt F) _); isplitr
      rotate_left
      · iapply (pt_owns c (st0_3 t) h3 _); iexact H3
      · ipureintro; exact hW.1
    isplitl [H4]
    · iexists ((st0_4 t).view.read (Elt F) _); isplitr
      rotate_left
      · iapply (pt_owns c (st0_4 t) h4 _); iexact H4
      · ipureintro; exact hW.2.1
    isplitl [H5]
    · iexists ((st0_5 t).view.read (Elt F) _); isplitr
      rotate_left
      · iapply (pt_owns c (st0_5 t) h5 _); iexact H5
      · ipureintro; exact hW.2.2.1
    isplitl [H6]
    · iexists ((st0_6 t).view.read (Elt F) _); isplitr
      rotate_left
      · iapply (pt_owns c (st0_6 t) h6 _); iexact H6
      · ipureintro; exact hW.2.2.2.1
    isplitl [H7]
    · iexists ((st0_7 t).view.read (Elt F) _); isplitr
      rotate_left
      · iapply (pt_owns c (st0_7 t) h7 _); iexact H7
      · ipureintro; exact hW.2.2.2.2.1
    · iexists ((st0_8 t).view.read (Elt F) _); isplitr
      rotate_left
      · iapply (pt_owns c (st0_8 t) h8 _); iexact H8
      · ipureintro; exact hW.2.2.2.2.2.1

end Cert.KernelIdeal.Proof

end
-- ==== Proof.Run.lean ====
/-
  The run of the whole program, given that the body keeps a track; and, from the track that says nothing, the frame:
  the program runs, leaves its arguments as they were and no semaphore raised.
-/
module

public import proofs.«01_k».proof.Proof.Pipeline
public import Idealize.ShloMosaic.Lib.Pipeline.ArrRel

@[expose] public section

set_option maxRecDepth 16384

noncomputable section

namespace Cert.KernelIdeal.Proof

open Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole program runs: every array ends as the track allows, and no semaphore is left raised. -/
theorem run (T : Track F) (hF : KeepsFirst m T) (hN : KeepsNext m T) (h0 : ∀ D, T.deq 0 D) :
    θ_run defs (onTc (τ := τ) (main (F := F))) (s₀ m ρ)
      (fun r => RDat.FramePost cfg0 (fun c => rdat m T c) (V m) r ∧ r.2.sem = fun _ => 0) :=
  RDat.θ_run_frame_track cfgs 0 launch0 defs₀ Variants.none (fun c => rdat m T c) m ρ main
    (fun c => body_obligation m T hF hN _ c) (fun c w => (rdat m T c).share_full (fun _ => rfl) w) (fun _ _ => rfl) (V m) (hmain m _)
    (fun _ _ => rfl)
    (fun c => by
      show Pipeline.ΦA spec0 c ⊢ iprop((∃ D : Bf (F := F) c mDeq, ⌜T.deq 0 D⌝ ∗ pt c mDeq D)
        ∗ (∃ f : Bf (F := F) c mAcc, pt c mAcc f) ∗ ∃ r, prngReg c r)
      unfold Pipeline.ΦA
      rw [scopedRest0_eq]
      iintro ⟨⟨⟨%D, HD⟩, %f, HA⟩, Hρ⟩
      isplitl [HD]
      · iexists D; isplitr; · ipureintro; exact h0 D
        iexact HD
      isplitl [HA]; · iexists f; iexact HA
      iexact Hρ)
    (fun c => by
      show iprop((∃ D : Bf (F := F) c mDeq, ⌜T.deq (Fin.last cfg0.N) D⌝ ∗ pt c mDeq D)
        ∗ (∃ f : Bf (F := F) c mAcc, pt c mAcc f) ∗ ∃ r, prngReg c r) ⊢ Pipeline.ΦA spec0 c
      unfold Pipeline.ΦA
      rw [scopedRest0_eq]
      iintro ⟨⟨%D, -, HD⟩, ⟨%f, HA⟩, Hρ⟩
      isplitl [HD HA]
      · isplitl [HD]
        · iexists D; iexact HD
        · iexists f; iexact HA
      iexact Hρ)
    (Q' := _)

/-- The track that says nothing. -/
def Track.trivial : Track F where
  r3 _ _ := True
  r4 _ _ := True
  r5 _ _ := True
  r6 _ _ := True
  r7 _ _ := True
  r8 _ _ := True
  deq _ _ := True

/-- The arguments after a run are the arguments before it. -/
theorem args_of_post (T : Track F) (r : PUnit × MemSt nD τ sig (Elt F)) (h : RDat.FramePost cfg0 (fun c => rdat m T c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
   (RDat.FramePost.arr_in h c 2 rfl).trans (V_main_arg1 m c),
   (RDat.FramePost.arr_in h c 0 rfl).trans (V_main_arg2 m c)⟩

/-- The program runs, leaves its arguments as they were, and leaves no semaphore raised. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨args_of_post m Track.trivial r h.1, h.2⟩)
    (run m ρ Track.trivial (fun _ _ _ _ _ _ _ _ _ _ _ _ _ _ _ _ _ _ _ _ _ _ _ _ _ _ _ _ _ _ _ _ _ _ _ => ⟨trivial, trivial, trivial, trivial, trivial, trivial, trivial⟩)
      (fun _ _ _ _ _ _ _ _ _ _ _ _ _ _ _ _ _ _ _ _ _ _ _ _ _ _ _ _ _ _ _ _ _ _ _ => ⟨trivial, trivial, trivial, trivial, trivial, trivial, trivial⟩) (fun _ => trivial))

end Cert.KernelIdeal.Proof

end
-- ==== Proof.Offsets.lean ====
/-
  Where a grid point `(i, j)` reads and writes, in closed form: the chunk of `dy` it quantises, the half of the dequantised
  rows it writes and the half it reads, the rows of the weight's scales it reads, and the lanes it puts scales in.
-/
module

public import proofs.«01_k».proof.Proof.RunNext

@[expose] public section

set_option maxRecDepth 16384

noncomputable section

namespace Cert.KernelIdeal.Proof

open Cert.KernelIdeal.Gen
open Idealize.ShloMosaic

/-- The chunk of 2048 columns of `dy` the point quantises. -/
def chunk (i : grid0.Coords) : ℕ := if (i 0).val = 24 then 7 else min (i 1).val 7

theorem chunk_lt (i : grid0.Coords) : chunk i < 8 := by unfold chunk; split <;> omega

/-- Where group `g`'s dequantised columns go. -/
theorem off3_eq (i : grid0.Coords) (g : Fin 16) :
    k0_off3 i (BitVec.ofNat 32 (128 * g.val)) = ![(i 0).val % 2, 0, 2048 * chunk i + 128 * g.val] := by
  unfold k0_off3 chunk
  generalize i 0 = a
  generalize i 1 = b
  revert a b g
  decide +kernel

theorem off3_inb (i : grid0.Coords) (n : ℕ) (h : n < 16) (a : Fin 3) :
    k0_off3 i (BitVec.ofNat 32 (128 * n)) a + S1x512x128.size a ≤ S2x512x16384.size a := by
  rw [off3_eq i ⟨n, h⟩]
  have := chunk_lt i
  fin_cases a <;> simp <;> omega

/-- The half of the dequantised rows the product reads. -/
theorem off23_eq (i : grid0.Coords) : k0_off23 i = ![1 - (i 0).val % 2, 0, 0] := by
  unfold k0_off23
  generalize i 0 = a
  revert a
  decide +kernel

/-- The position of the scale of block row `nb` of the point's tile, block column `col`, in the weight's scales. -/
def scaleOff (i : grid0.Coords) (nb col : ℕ) : Fin 2 → ℕ :=
  ![(Scalar.indexCast (Scalar.addi (Scalar.muli (BitVec.ofNat 32 (i 1).val) 4#32) (BitVec.ofNat 32 nb))).toNat, col]

theorem scaleOff_row (i : grid0.Coords) (nb : Fin 4) :
    (Scalar.indexCast (Scalar.addi (Scalar.muli (BitVec.ofNat 32 (i 1).val) 4#32) (BitVec.ofNat 32 nb.val))).toNat = 4 * (i 1).val + nb.val := by
  generalize i 1 = b
  revert b nb
  decide +kernel

theorem scaleOff_eq (i : grid0.Coords) (nb : Fin 4) (col : ℕ) : scaleOff i nb col = ![4 * (i 1).val + nb.val, col] := by
  unfold scaleOff
  rw [scaleOff_row]

theorem scaleOff_inb (i : grid0.Coords) (nb col : ℕ) (hnb : nb < 4) (hcol : col < 128) (a : Fin 2) :
    scaleOff i nb col a + S1x1.size a ≤ S48x128.size a := by
  rw [scaleOff_eq i ⟨nb, hnb⟩]
  have : (i 1).val < 12 := (i 1).isLt
  fin_cases a <;> simp <;> omega

/-- The first of the sixteen groups of the point's chunk, as the kernel computes it: the chunk's first column, divided by 128
    and rounded down. -/
def groupWord (i : grid0.Coords) : BitVec 32 :=
  let k : BitVec 32 := Scalar.muli (Scalar.select (Scalar.cmpi .eq (BitVec.ofNat 32 (i 0).val) 24#32) (7#32)
    (Scalar.minsi (BitVec.ofNat 32 (i 1).val) 7#32)) 2048#32
  Scalar.select (Scalar.andi
      (Scalar.cmpi .ne (Scalar.subi (Scalar.extui (Scalar.cmpi .sgt k 0#32)) (Scalar.extui (Scalar.cmpi .slt k 0#32)) : BitVec 32) 1#32)
      (Scalar.cmpi .ne (Scalar.remsi k 128#32) 0#32))
    (Scalar.subi (Scalar.divsi k 128#32) 1#32) (Scalar.divsi k 128#32)

theorem groupWord_first (i : grid0.Coords) : runFirst.sl.v29 i = groupWord i := rfl
theorem groupWord_next (i : grid0.Coords) : runNext.sl.v29 i = groupWord i := rfl

theorem groupWord_eq (i : grid0.Coords) : groupWord i = BitVec.ofNat 32 (16 * chunk i) := by
  unfold groupWord chunk
  generalize i 0 = a
  generalize i 1 = b
  revert a b
  decide +kernel

end Cert.KernelIdeal.Proof
-- ==== Proof.Scale.lean ====
/-
  The scale of a group, over the reals: the exponent field found by binary search names the same power of two as the floor of
  the logarithm.
-/
module

public import Idealize.ShloMosaic.PureOps.Ideal

@[expose] public section

noncomputable section

namespace Cert.Quantise

open Idealize.ShloMosaic

/-! ## The scale as the reference states it -/

/-- The exponent: one more than the floor of the binary logarithm, at most 126; zero below the least normal number. -/
def expo (x : EReal) : EReal :=
  if x < Ideal.ofBits .f32 0x00800000#32 then 0
  else min (Ideal.liftRound Int.floor (Ideal.div (Ideal.log x) (Ideal.log (Ideal.ofBits .f32 0x40000000#32))) + Ideal.ofBits .f32 0x3F800000#32)
    (Ideal.ofBits .f32 0x42FC0000#32)

/-! ## The scale by binary search -/

/-- The power of two with exponent field `n`. -/
def pow (n : ℕ) : EReal := Ideal.ofBits .f32 (BitVec.ofNat 32 n <<< 23)

def step (x : EReal) (b f : BitVec 32) : BitVec 32 :=
  Scalar.select (Ideal.cmp .oge x (Ideal.ofBits .f32 (IntOp.shli .vector (IntOp.addi f b) 23#32))) (IntOp.addi f b) f

/-- The exponent field, found bit by bit. -/
def field (x : EReal) : BitVec 32 :=
  let f := IntOp.minsi (step x 1#32 (step x 2#32 (step x 4#32 (step x 8#32 (step x 16#32 (step x 32#32
    (step x 64#32 (step x 128#32 0#32)))))))) 252#32
  Scalar.select (IntOp.cmpi .eq f 0#32) 126#32 f

/-- The scale built from a field, -/
def fieldScale (x : EReal) : EReal := Ideal.ofBits .f32 (IntOp.shli .vector (IntOp.addi (field x) 1#32) 23#32)
/-- and its reciprocal. -/
def fieldInverse (x : EReal) : EReal := Ideal.ofBits .f32 (IntOp.shli .vector (IntOp.subi 253#32 (field x)) 23#32)

theorem pow_bits : ∀ n : Fin 256, (BitVec.ofNat 32 n.val <<< 23).extractLsb' 31 1 = 0#1
    ∧ ((BitVec.ofNat 32 n.val <<< 23).extractLsb' 23 8).toNat = n.val ∧ ((BitVec.ofNat 32 n.val <<< 23).extractLsb' 0 23).toNat = 0 := by
  decide +kernel

theorem normal_bits (b : BitVec 32) (n : ℕ) (h0 : 1 ≤ n) (h1 : n ≤ 254) (hs : b.extractLsb' 31 1 = 0#1) (he : (b.extractLsb' 23 8).toNat = n)
    (hf : (b.extractLsb' 0 23).toNat = 0) : Ideal.ofBits .f32 b = (((2 : ℝ) ^ ((n : ℤ) - 127) : ℝ) : EReal) := by
  unfold Ideal.ofBits Ideal.ieee
  simp only [Nat.reduceAdd, hs, he, hf]
  rw [if_neg (by omega), if_neg (by omega), EReal.coe_eq_coe_iff]
  have : (2 : ℝ) ^ (23 : ℕ) * (2 : ℝ) ^ ((n : ℤ) - 127 - 23) = (2 : ℝ) ^ ((n : ℤ) - 127) := by
    rw [← zpow_natCast (2 : ℝ) 23, ← zpow_add₀ (by norm_num : (2 : ℝ) ≠ 0)]
    congr 1
    push_cast
    ring
  rw [← this]
  norm_num

theorem pow_eq (n : ℕ) (h0 : 1 ≤ n) (h1 : n ≤ 254) : pow n = (((2 : ℝ) ^ ((n : ℤ) - 127) : ℝ) : EReal) :=
  normal_bits _ n h0 h1 (pow_bits ⟨n, by omega⟩).1 (pow_bits ⟨n, by omega⟩).2.1 (pow_bits ⟨n, by omega⟩).2.2

theorem pow_top : pow 255 = ⊤ := by
  obtain ⟨hs, he, hf⟩ := pow_bits ⟨255, by omega⟩
  simp only at hs he hf
  unfold pow Ideal.ofBits Ideal.ieee
  simp only [Nat.reduceAdd, hs, he, hf]
  simp

theorem step_eq (x : EReal) (m b : ℕ) :
    step x (BitVec.ofNat 32 b) (BitVec.ofNat 32 m) = if pow (m + b) ≤ x then BitVec.ofNat 32 (m + b) else BitVec.ofNat 32 m := by
  have hw : IntOp.addi (BitVec.ofNat 32 m) (BitVec.ofNat 32 b) = BitVec.ofNat 32 (m + b) := by simp [IntOp.addi, BitVec.ofNat_add]
  have hs : IntOp.shli .vector (BitVec.ofNat 32 (m + b)) 23#32 = BitVec.ofNat 32 (m + b) <<< 23 := by
    unfold IntOp.shli
    rw [if_pos (by decide)]
    rfl
  unfold step
  rw [hw, hs]
  show Scalar.select (BitVec.ofBool (decide (pow (m + b) ≤ x))) _ _ = _
  by_cases h : pow (m + b) ≤ x <;> simp [h, Scalar.select]

/-- What the search knows with the bits down to `b` decided. -/
def Known (x : EReal) (m b : ℕ) : Prop := (m = 0 ∨ pow m ≤ x) ∧ (m + b = 256 ∨ x < pow (m + b)) ∧ m + b ≤ 256

theorem known_step (x : EReal) (b : ℕ) (hb : 0 < b) (f : BitVec 32) (h : ∃ m, f = BitVec.ofNat 32 m ∧ Known x m (2 * b)) :
    ∃ m, step x (BitVec.ofNat 32 b) f = BitVec.ofNat 32 m ∧ Known x m b := by
  obtain ⟨m, rfl, h1, h2, h3⟩ := h
  rw [step_eq]
  by_cases hp : pow (m + b) ≤ x
  · refine ⟨m + b, if_pos hp, Or.inr hp, ?_, by omega⟩
    rwa [show m + b + b = m + 2 * b by omega]
  · exact ⟨m, if_neg hp, h1, Or.inr (not_le.mp hp), by omega⟩

/-- The search finds the exponent field. -/
theorem field_eq (x : EReal) : ∃ N : ℕ, N ≤ 255 ∧ (N = 0 ∨ pow N ≤ x) ∧ (N = 255 ∨ x < pow (N + 1))
    ∧ field x = BitVec.ofNat 32 (if N = 0 then 126 else min N 252) := by
  obtain ⟨N, hN, h1, h2, h3⟩ := known_step x 1 (by omega) _ (known_step x 2 (by omega) _ (known_step x 4 (by omega) _
    (known_step x 8 (by omega) _ (known_step x 16 (by omega) _ (known_step x 32 (by omega) _ (known_step x 64 (by omega) _
    (known_step x 128 (by omega) 0#32 ⟨0, rfl, Or.inl rfl, Or.inl rfl, by omega⟩)))))))
  refine ⟨N, by omega, h1, h2.imp (fun h => by omega) id, ?_⟩
  unfold field
  simp only []
  erw [hN]
  have : ∀ N : Fin 256, Scalar.select (IntOp.cmpi .eq (IntOp.minsi (BitVec.ofNat 32 N.val) 252#32) 0#32) 126#32
      (IntOp.minsi (BitVec.ofNat 32 N.val) 252#32) = BitVec.ofNat 32 (if N.val = 0 then 126 else min N.val 252) := by decide +kernel
  exact this ⟨N, by omega⟩

/-! ## The two agree -/

theorem one_bits : Ideal.ofBits .f32 0x3F800000#32 = ((1 : ℝ) : EReal) := by
  simp [Ideal.ofBits, Ideal.ieee, -EReal.coe_mul]; norm_num
theorem two_bits : Ideal.ofBits .f32 0x40000000#32 = ((2 : ℝ) : EReal) := by
  simp [Ideal.ofBits, Ideal.ieee, -EReal.coe_mul]; norm_num
theorem cap_bits : Ideal.ofBits .f32 0x42FC0000#32 = ((126 : ℝ) : EReal) := by
  simp [Ideal.ofBits, Ideal.ieee, -EReal.coe_mul]; norm_num
theorem least_bits : Ideal.ofBits .f32 0x00800000#32 = pow 1 := rfl

theorem log_two : Ideal.log (Ideal.ofBits .f32 0x40000000#32) = ((Real.log 2 : ℝ) : EReal) := by
  rw [two_bits, Ideal.log_coe, if_neg (by norm_num)]

theorem coe_min (a b : ℝ) : min (a : EReal) (b : EReal) = ((min a b : ℝ) : EReal) := (EReal.coe_strictMono.monotone.map_min).symm

theorem le_log_iff {r : ℝ} (hr : 0 < r) (k : ℤ) : ((k : ℤ) : ℝ) ≤ Real.log r * (Real.log 2)⁻¹ ↔ (2 : ℝ) ^ k ≤ r := by
  have hl2 : (0 : ℝ) < Real.log 2 := Real.log_pos (by norm_num)
  rw [← div_eq_mul_inv, le_div_iff₀ hl2, ← Real.log_zpow, Real.log_le_log_iff (by positivity) hr]

/-- With field `N`, the exponent is `N - 126`, at most 126, and zero at `N = 0`. -/
theorem expo_eq (x : EReal) (N : ℕ) (hN : N ≤ 255) (h1 : N = 0 ∨ pow N ≤ x) (h2 : N = 255 ∨ x < pow (N + 1)) :
    expo x = (((((if N = 0 then 126 else min N 252 : ℕ) : ℤ) - 126 : ℤ) : ℝ) : EReal) := by
  unfold expo
  rw [least_bits, log_two, one_bits, cap_bits]
  rcases Nat.eq_zero_or_pos N with rfl | hpos
  · rw [if_pos (by simpa using h2)]
    simp
  have hx : pow N ≤ x := h1.resolve_left (by omega)
  rw [if_neg (by omega : ¬ N = 0)]
  have hp1 : pow 1 = (((2 : ℝ) ^ ((1 : ℤ) - 127) : ℝ) : EReal) := by rw [pow_eq 1 (by omega) (by omega)]; rfl
  have hmono : pow 1 ≤ pow N := by
    by_cases h255 : N = 255
    · rw [h255, pow_top]; exact le_top
    · rw [hp1, pow_eq N hpos (by omega), EReal.coe_le_coe_iff]
      exact zpow_le_zpow_right₀ (by norm_num) (by omega)
  rw [if_neg (not_lt.mpr (hmono.trans hx))]
  have hl2 : (0 : ℝ) < Real.log 2 := Real.log_pos (by norm_num)
  induction x using EReal.rec with
  | bot =>
    exfalso
    have := hmono.trans hx
    rw [hp1] at this
    exact absurd this (by simp)
  | top =>
    have hN' : N = 255 := by
      rcases h2 with h | h
      · exact h
      · exact absurd h not_top_lt
    subst hN'
    have hd : Ideal.div (Ideal.log ⊤) ((Real.log 2 : ℝ) : EReal) = ⊤ := by
      unfold Ideal.div
      rw [if_neg (by exact_mod_cast hl2.ne'), Ideal.log_top, ← EReal.coe_inv]
      exact EReal.top_mul_coe_of_pos (inv_pos.mpr hl2)
    rw [hd, Ideal.liftRound_top]
    rw [EReal.top_add_coe, min_eq_right le_top]
    norm_num
  | coe r =>
    have hN' : N ≤ 254 := by
      by_contra h
      have : N = 255 := by omega
      subst this
      rw [pow_top] at hx
      exact absurd hx (by simp)
    rw [pow_eq N hpos hN', EReal.coe_le_coe_iff] at hx
    have hr : 0 < r := lt_of_lt_of_le (by positivity) hx
    have hd : Ideal.div (Ideal.log (r : EReal)) ((Real.log 2 : ℝ) : EReal) = ((Real.log r * (Real.log 2)⁻¹ : ℝ) : EReal) := by
      unfold Ideal.div
      rw [if_neg (by exact_mod_cast hl2.ne'), Ideal.log_coe, if_neg (not_le.mpr hr), ← EReal.coe_inv, ← EReal.coe_mul]
    rw [hd, Ideal.liftRound_coe, ← EReal.coe_add, coe_min]
    congr 1
    have hlow : ((N : ℤ) - 127) ≤ ⌊Real.log r * (Real.log 2)⁻¹⌋ := by
      rw [Int.le_floor, le_log_iff hr]
      exact hx
    have hlow' : (((N : ℤ) - 127 : ℤ) : ℝ) ≤ (⌊Real.log r * (Real.log 2)⁻¹⌋ : ℝ) := by exact_mod_cast hlow
    push_cast at hlow'
    by_cases h254 : N ≤ 253
    · have hhi : r < (2 : ℝ) ^ (((N + 1 : ℕ) : ℤ) - 127) := by
        rcases h2 with h | h
        · omega
        · rwa [pow_eq (N + 1) (by omega) (by omega), EReal.coe_lt_coe_iff] at h
      have hfl : ⌊Real.log r * (Real.log 2)⁻¹⌋ < (((N + 1 : ℕ) : ℤ) - 127) := by
        rw [Int.floor_lt, ← not_le, le_log_iff hr, not_le]
        exact hhi
      have heq : ⌊Real.log r * (Real.log 2)⁻¹⌋ = (N : ℤ) - 127 := by omega
      rw [heq]
      by_cases h252 : N ≤ 252
      · rw [min_eq_left (by exact_mod_cast h252 : N ≤ 252), min_eq_left]
        · push_cast; ring
        · have : (N : ℝ) ≤ 252 := by exact_mod_cast h252
          push_cast; linarith
      · rw [min_eq_right (by omega : 252 ≤ N), min_eq_right]
        · norm_num
        · have : (253 : ℝ) ≤ N := by exact_mod_cast (by omega : 253 ≤ N)
          push_cast; linarith
    · have hN4 : N = 254 := by omega
      subst hN4
      rw [min_eq_right (by push_cast at hlow'; linarith)]
      norm_num

theorem exp2_int (k : ℤ) : Ideal.exp2 (((k : ℤ) : ℝ) : EReal) = (((2 : ℝ) ^ k : ℝ) : EReal) := by
  rw [Ideal.exp2_coe]
  congr 1
  exact Real.rpow_intCast 2 k

/-- The binary search's scale and inverse are the powers of two at the reference's exponent. -/
theorem fieldScale_eq (x : EReal) : fieldScale x = Ideal.exp2 (expo x) ∧ fieldInverse x = Ideal.exp2 (0 - expo x) := by
  obtain ⟨N, hN, h1, h2, hf⟩ := field_eq x
  have he := expo_eq x N hN h1 h2
  set n := (if N = 0 then 126 else min N 252) with hn
  have hn1 : 1 ≤ n ∧ n ≤ 252 := by rw [hn]; split <;> omega
  have hw : ∀ n : Fin 253, IntOp.shli .vector (IntOp.addi (BitVec.ofNat 32 n.val) 1#32) 23#32 = BitVec.ofNat 32 (n.val + 1) <<< 23
      ∧ IntOp.shli .vector (IntOp.subi 253#32 (BitVec.ofNat 32 n.val)) 23#32 = BitVec.ofNat 32 (253 - n.val) <<< 23 := by decide +kernel
  obtain ⟨w1, w2⟩ := hw ⟨n, by omega⟩
  simp only at w1 w2
  unfold fieldScale fieldInverse
  rw [hf, w1, w2, he]
  constructor
  · rw [exp2_int]
    show pow (n + 1) = _
    rw [pow_eq (n + 1) (by omega) (by omega)]
    congr 2
    push_cast
    ring
  · rw [← EReal.coe_zero, ← EReal.coe_sub, show (0 : ℝ) - (((n : ℤ) - 126 : ℤ) : ℝ) = ((126 - (n : ℤ) : ℤ) : ℝ) by push_cast; ring, exp2_int]
    show pow (253 - n) = _
    rw [pow_eq (253 - n) (by omega) (by omega)]
    congr 2
    omega

end Cert.Quantise
-- ==== Proof.Spec.lean ====
/-
  The problem over the reals, entry by entry: a gradient quantised by groups of 128 along its rows, its product with the
  dequantised weight, and that product quantised along its rows and along its columns. Arrays are functions of two natural
  numbers.
-/
module

public import proofs.«01_k».proof.Proof.Scale

@[expose] public section

noncomputable section

namespace Cert.Quantise

open Idealize.ShloMosaic

/-- The greatest magnitude of 128 values. -/
def amax (f : ℕ → EReal) : EReal :=
  Finset.univ.fold max (Ideal.ofBits .f32 0xFF800000#32) (fun l : Fin 128 => max (f l.val) (-f l.val))

/-- The greatest magnitude over 448. -/
def ratio (d : EReal) : EReal := d * Ideal.ofBits .f32 0x3B124925#32

/-- The power-of-two scale of a group with greatest magnitude `d`. -/
def scale (d : EReal) : EReal := Ideal.exp2 (expo (ratio d))

/-- The code of `v` in such a group. -/
def code (v d : EReal) : EReal :=
  min (Ideal.ofBits .f32 0x43E00000#32) (max (Ideal.ofBits .f32 0xC3E00000#32) (v * Ideal.exp2 (0 - expo (ratio d))))

/-- The greatest magnitude of row `r`, columns `128 g …`. -/
def rowMax (A : ℕ → ℕ → EReal) (r g : ℕ) : EReal := amax fun l => A r (128 * g + l)
/-- The greatest magnitude of column `n`, rows `128 h …`. -/
def colMax (A : ℕ → ℕ → EReal) (h n : ℕ) : EReal := amax fun l => A (128 * h + l) n

/-- The scale of row `r`, columns `128 g …`, -/
def rowScale (A : ℕ → ℕ → EReal) (r g : ℕ) : EReal := scale (rowMax A r g)
/-- and the codes under it. -/
def rowCode (A : ℕ → ℕ → EReal) (r k : ℕ) : EReal := code (A r k) (rowMax A r (k / 128))
/-- The scale of column `n`, rows `128 h …`, -/
def colScale (A : ℕ → ℕ → EReal) (h n : ℕ) : EReal := scale (colMax A h n)
/-- and the codes under it. -/
def colCode (A : ℕ → ℕ → EReal) (r n : ℕ) : EReal := code (A r n) (colMax A (r / 128) n)

/-- Codes times scales. -/
def deq (A : ℕ → ℕ → EReal) (r k : ℕ) : EReal := rowCode A r k * rowScale A r (k / 128)

/-- The weight times the scale of its block. -/
def weight (W S : ℕ → ℕ → EReal) (n k : ℕ) : EReal := W n k * S (n / 128) (k / 128)

/-- The product, contracted over the 16384 columns of both. -/
def prod (A W S : ℕ → ℕ → EReal) (r n : ℕ) : EReal := ∑ k : Fin 16384, deq A r k.val * weight W S n k.val

end Cert.Quantise
-- ==== Proof.Blocks.lean ====
/-
  The blocks of the windows at coordinates: which rows and columns of the arrays a grid point reads and writes.
-/
module

public import proofs.«01_k».proof.Proof.Offsets
public import proofs.«01_k».proof.Proof.Spec
public import Idealize.ShloMosaic.Lib.Pointwise
public import Idealize.ShloMosaic.Lib.Pipeline.ValueKit.Geometry

@[expose] public section

set_option maxRecDepth 16384

noncomputable section

namespace Cert.KernelIdeal.Proof

open Cert.KernelIdeal.Gen
open Idealize.ShloMosaic
open Idealize.ShloMosaic.TcCoe

variable (m : (ℓ : Loc nD τ sig) → Buf (Elt Ideal) ℓ)

/-- A matrix as a function of two numbers. -/
def grid2 {a b : ℕ} (X : (⟨2, ![a, b]⟩ : Shape).Idx → EReal) (r k : ℕ) : EReal :=
  if h : r < a ∧ k < b then X (ix2 ⟨r, h.1⟩ ⟨k, h.2⟩) else 0

/-- Such a function at coordinates within the matrix is the entry. -/
theorem grid2_apply {a b : ℕ} (X : (⟨2, ![a, b]⟩ : Shape).Idx → EReal) (r : Fin a) (k : Fin b) : grid2 X r.val k.val = X (ix2 r k) :=
  dif_pos ⟨r.isLt, k.isLt⟩

theorem grid2_of_lt {a b : ℕ} (X : (⟨2, ![a, b]⟩ : Shape).Idx → EReal) (r k : ℕ) (hr : r < a) (hk : k < b) : grid2 X r k = X (ix2 ⟨r, hr⟩ ⟨k, hk⟩) :=
  dif_pos ⟨hr, hk⟩

/-- The gradient, its first two axes flattened; -/
def arrA (c : Dev nD) : ℕ → ℕ → EReal := grid2 (a := 12288) (b := 16384) (V m c main_v0)
/-- the weight's codes; -/
def arrW (c : Dev nD) : ℕ → ℕ → EReal := grid2 (a := 6144) (b := 16384) (V m c main_arg1)
/-- the weight's scales. -/
def arrS (c : Dev nD) : ℕ → ℕ → EReal := grid2 (a := 48) (b := 128) (V m c main_arg2)

/-- A grid point's row block is its number over 12, -/
theorem coords0 : ∀ t : Fin cfg0.N, (grid0.coords t 0).val = t.val / 12 := (by decide +kernel : ∀ t : Fin grid0.N, _)
/-- its column block the remainder. -/
theorem coords1 : ∀ t : Fin cfg0.N, (grid0.coords t 1).val = t.val % 12 := (by decide +kernel : ∀ t : Fin grid0.N, _)

/-- The block of each window at a point. -/
theorem index0 : ∀ t : Fin cfg0.N, win0_0.index t = ![0, 0] := (by decide +kernel : ∀ t : Fin grid0.N, _)
theorem index1 : ∀ t : Fin cfg0.N, win0_1.index t = ![min (t.val / 12) 23, chunk (grid0.coords t)] := (by decide +kernel : ∀ t : Fin grid0.N, _)
theorem index2 : ∀ t : Fin cfg0.N, 12 ≤ t.val → win0_2.index t = ![t.val % 12, 0] := (by decide +kernel : ∀ t : Fin grid0.N, _)
theorem index3 : ∀ t : Fin cfg0.N, 12 ≤ t.val → win0_3.index t = ![t.val / 12 - 1, t.val % 12] := (by decide +kernel : ∀ t : Fin grid0.N, _)
theorem index4 : ∀ t : Fin cfg0.N, 12 ≤ t.val → win0_4.index t = ![t.val / 12 - 1, 0] := (by decide +kernel : ∀ t : Fin grid0.N, _)
theorem index5 : ∀ t : Fin cfg0.N, 12 ≤ t.val → win0_5.index t = ![t.val / 12 - 1, t.val % 12] := (by decide +kernel : ∀ t : Fin grid0.N, _)
theorem index6 : ∀ t : Fin cfg0.N, 12 ≤ t.val → win0_6.index t = ![t.val / 12 - 1, 0, t.val % 12] := (by decide +kernel : ∀ t : Fin grid0.N, _)
theorem index7 : ∀ t : Fin cfg0.N, win0_7.index t = ![min (t.val / 12) 23, chunk (grid0.coords t)] := (by decide +kernel : ∀ t : Fin grid0.N, _)
theorem index8 : ∀ t : Fin cfg0.N, win0_8.index t = ![min (t.val / 12) 23, 0] := (by decide +kernel : ∀ t : Fin grid0.N, _)

/-- The product's results are written back only past the first row block; its row scales at the last point of a row block. -/
theorem flush3 : ∀ t : Fin cfg0.N, win0_3.flush t = true → 12 ≤ t.val := (by decide +kernel : ∀ t : Fin grid0.N, _)
theorem flush4 : ∀ t : Fin cfg0.N, win0_4.flush t = true → 12 ≤ t.val ∧ t.val % 12 = 11 := (by decide +kernel : ∀ t : Fin grid0.N, _)
theorem flush5 : ∀ t : Fin cfg0.N, win0_5.flush t = true → 12 ≤ t.val := (by decide +kernel : ∀ t : Fin grid0.N, _)
theorem flush6 : ∀ t : Fin cfg0.N, win0_6.flush t = true → 12 ≤ t.val := (by decide +kernel : ∀ t : Fin grid0.N, _)
theorem flush8 : ∀ t : Fin cfg0.N, win0_8.flush t = true → t.val % 12 = 11 ∧ (t.val / 12 ≠ 23) := (by decide +kernel : ∀ t : Fin grid0.N, _)

/-- The weight's scales are staged whole. -/
theorem iblk0 (c : Dev nD) (t : Fin cfg0.N) (a : Fin 48) (b : Fin 128) : iblk m c 0 t (ix2 a b) = arrS m c a.val b.val := by
  unfold arrS
  rw [grid2_apply]
  blk_simp [iblk]
  congr 1
  blk_ext [index0 t]

/-- A point stages 512 rows by 2048 columns of the gradient. -/
theorem iblk1 (c : Dev nD) (t : Fin cfg0.N) (r : Fin 512) (k : Fin 2048) :
    iblk m c 1 t (ix2 r k) = arrA m c (512 * min (t.val / 12) 23 + r.val) (2048 * chunk (grid0.coords t) + k.val) := by
  have := chunk_lt (grid0.coords t)
  unfold arrA
  rw [grid2_of_lt _ _ _ (by omega) (by omega)]
  blk_simp [iblk]
  congr 1
  blk_ext [index1 t]

/-- A point past the first row block stages 512 rows of the weight. -/
theorem iblk2 (c : Dev nD) (t : Fin cfg0.N) (ht : 12 ≤ t.val) (n : Fin 512) (k : Fin 16384) :
    iblk m c 2 t (ix2 n k) = arrW m c (512 * (t.val % 12) + n.val) k.val := by
  unfold arrW
  rw [grid2_of_lt _ _ _ (by omega) (by omega)]
  blk_simp [iblk]
  congr 1
  blk_ext [index2 t ht]

end Cert.KernelIdeal.Proof
-- ==== Proof.Tile.lean ====
/-
  What one grid point computes, tile by tile, as functions of the blocks it reads: the power-of-two scale of a row of 128
  values (or of a column of 128), the codes under that scale, the tile of the product accumulated over eight chunks of the
  contraction, and the lists of stores that put these in the buffers.
-/
module

public import proofs.«01_k».proof.Proof.Offsets

@[expose] public section

set_option maxRecDepth 16384

noncomputable section

namespace Cert.KernelIdeal.Proof

open Cert.KernelIdeal.Gen
open Idealize.ShloMosaic

variable {F : FTy → Type} [FloatOps F]

/-! ## The scale and the codes -/

/-- One step of the search for the exponent field: set the bit `b` if `x` is at least the power of two so named. -/
def fieldStep {s : Shape} (x : FVec F s .f32) (b : BitVec 32) (f : IVec s 32) : IVec s 32 :=
  select (cmpf .oge x (bitcastToFloat .f32 (shli (addi f (broadcast s b)) (broadcast s 23#32)))) (addi f (broadcast s b)) f

/-- The exponent field of `x`, highest bit first, capped at 252; zero counts as 126. -/
def fieldOf {s : Shape} (x : FVec F s .f32) : IVec s 32 :=
  have f := minsi (fieldStep x 1#32 (fieldStep x 2#32 (fieldStep x 4#32 (fieldStep x 8#32 (fieldStep x 16#32 (fieldStep x 32#32
    (fieldStep x 64#32 (fieldStep x 128#32 (broadcast s 0#32))))))))) (broadcast s 252#32)
  select (cmpi .eq f (broadcast s 0#32)) (broadcast s 126#32) f

/-- The scale of a field: twice the power of two it names. -/
def scaleOf {s : Shape} (f : IVec s 32) : FVec F s .f32 :=
  bitcastToFloat .f32 (shli (addi f (broadcast s 1#32)) (broadcast s 23#32))

/-- The inverse of that scale. -/
def inverseOf {s : Shape} (f : IVec s 32) : FVec F s .f32 :=
  bitcastToFloat .f32 (shli (subi (broadcast s 253#32) f) (broadcast s 23#32))

/-- The codes of `v` under the inverse scale `u`. -/
def codesOf {s : Shape} (v u : FVec F s .f32) : FVec F s .fp8e4m3 :=
  truncf .fp8e4m3 (minimumf (broadcast s (Scalar.ofBits .f32 0x43E00000#32))
    (maximumf (broadcast s (Scalar.ofBits .f32 0xC3E00000#32)) (mulf v u))) bitsLt_fp8e4m3_f32

/-- The greatest magnitude of each row, over 448, along the row. -/
def rowRatio (v : FVec F S512x128 .f32) : FVec F S512x128 .f32 :=
  mulf (broadcastTo S512x128 (shapeCast S512x1 (shapeCast S512x1
      (multiReduction .maximumf [1] S512 (absf v) 0xFF800000#32 reduces_S512x128_S512 (.inl rfl) rfl)
      shapeCasts_S512_S512x1) shapeCasts_S512x1_S512x1) broadcasts_S512x1_S512x128)
    (broadcast S512x128 (Scalar.ofBits .f32 0x3B124925#32))

/-- The greatest magnitude of each column of a square block, over 448. -/
def colRatio (v : FVec F S128x128 .f32) : FVec F S1x128 .f32 :=
  mulf (shapeCast S1x128
      (multiReduction .maximumf [0] S128 (absf v) 0xFF800000#32 reduces_S128x128_S128 (.inl rfl) rfl) shapeCasts_S128_S1x128)
    (broadcast S1x128 (Scalar.ofBits .f32 0x3B124925#32))

def rowField (v : FVec F S512x128 .f32) : IVec S512x128 32 := fieldOf (rowRatio v)
def rowScale (v : FVec F S512x128 .f32) : FVec F S512x128 .f32 := scaleOf (rowField v)
def rowCodes (v : FVec F S512x128 .f32) : FVec F S512x128 .fp8e4m3 := codesOf v (inverseOf (rowField v))
def colField (v : FVec F S128x128 .f32) : IVec S1x128 32 := fieldOf (colRatio v)
def colScale (v : FVec F S128x128 .f32) : FVec F S1x128 .f32 := scaleOf (colField v)
def colCodes (v : FVec F S128x128 .f32) : FVec F S128x128 .fp8e4m3 :=
  codesOf v (broadcastTo S128x128 (inverseOf (colField v)) broadcasts_S1x128_S128x128)

/-! ## One chunk of `dy` -/

/-- Columns `128 g …` of the chunk, widened. -/
def dyCols (x : Vec F S512x2048 .bf16) (g : ℕ) (h : g < 16) : FVec F S512x128 .f32 :=
  extf .f32 (shapeCast S512x128 (View.ld x (Rect.unit (s := S512x2048) ![0, 128 * g] S512x128.size
    (fun a => by fin_cases a <;> simp <;> omega))) shapeCasts_S512x128_S512x128) bitsLt_bf16_f32

/-- The codes of those columns times their scale, in bf16. -/
def dyDeq (v : FVec F S512x128 .f32) : Vec F S1x512x128 .bf16 :=
  shapeCast S1x512x128 (shapeCast S512x128 (mulf (extf .bf16 (rowCodes v) bitsLt_fp8e4m3_bf16)
    (truncf .bf16 (rowScale v) bitsLt_bf16_f32)) shapeCasts_S512x128_S512x128) shapeCasts_S512x128_S1x512x128

/-- The stores of the first `n` groups' codes. -/
def dyCodePieces (x : Vec F S512x2048 .bf16) : (n : ℕ) → n ≤ 16 → List (View.Piece (Elt F) S512x2048 .fp8e4m3)
  | 0, _ => []
  | n + 1, h => ⟨Rect.unit (s := S512x2048) ![0, 128 * n] S512x128.size (fun a => by fin_cases a <;> simp <;> omega),
      rowCodes (dyCols x n (by omega))⟩ :: dyCodePieces x n (by omega)

/-- The stores of the first `n` groups' dequantised columns. -/
def dyDeqPieces (x : Vec F S512x2048 .bf16) (i : grid0.Coords) : (n : ℕ) → n ≤ 16 → List (View.Piece (Elt F) S2x512x16384 .bf16)
  | 0, _ => []
  | n + 1, h => ⟨Rect.unit (s := S2x512x16384) (k0_off3 i (BitVec.ofNat 32 (128 * n))) S1x512x128.size (off3_inb i n h),
      dyDeq (dyCols x n (by omega))⟩ :: dyDeqPieces x i n (by omega)

/-- The scales of the chunk's first `n` groups put in their lanes of `z`. -/
def dyScales (x : Vec F S512x2048 .bf16) (i : grid0.Coords) (z : FVec F S512x128 .f32) : (n : ℕ) → n ≤ 16 → FVec F S512x128 .f32
  | 0, _ => z
  | n + 1, h => select (cmpi .eq (iota .tc S512x128 32 [1] iota_S512x128_d1_w32) (broadcast S512x128 (Scalar.addi (groupWord i) (BitVec.ofNat 32 n))))
      (rowScale (dyCols x n (by omega))) (dyScales x i z n (by omega))

/-! ## The weight and the product -/

/-- A block of 128 x 128 codes of the weight times its scale. -/
def weightBlock (w : Vec F S512x16384 .fp8e4m3) (s : Vec F S48x128 .f32) (i : grid0.Coords) (col : ℕ) (hcol : col < 128) (nb : ℕ) (hnb : nb < 4) :
    FVec F S128x128 .bf16 :=
  mulf (extf .bf16 (View.ld w (Rect.unit (s := S512x16384) ![128 * nb, 128 * col] S128x128.size
      (fun a => by fin_cases a <;> simp <;> omega))) bitsLt_fp8e4m3_bf16)
    (broadcast S128x128 (Scalar.truncf .bf16 bitsLt_bf16_f32
      (View.ld s (Rect.unit (s := S48x128) (scaleOff i nb col) S1x1.size (scaleOff_inb i nb col hnb hcol)) (Shape.Idx.first (show 0 < S1x1.numel by decide)))))

/-- The four blocks of one block column. -/
def weightCol (w : Vec F S512x16384 .fp8e4m3) (s : Vec F S48x128 .f32) (i : grid0.Coords) (col : ℕ) (hcol : col < 128) : FVec F S512x128 .bf16 :=
  concatenate S512x128 0 [⟨S128x128, weightBlock w s i col hcol 0 (by omega)⟩, ⟨S128x128, weightBlock w s i col hcol 1 (by omega)⟩,
    ⟨S128x128, weightBlock w s i col hcol 2 (by omega)⟩, ⟨S128x128, weightBlock w s i col hcol 3 (by omega)⟩]
    concatenates_S128x128_S128x128_S128x128_S128x128_S512x128_d0

/-- The sixteen block columns of one chunk of the contraction. -/
def weightTile (w : Vec F S512x16384 .fp8e4m3) (s : Vec F S48x128 .f32) (i : grid0.Coords) (k : ℕ) (hk : k < 8) : FVec F S512x2048 .bf16 :=
  concatenate S512x2048 1 [
    ⟨S512x128, weightCol w s i (16 * k + 0) (by omega)⟩, ⟨S512x128, weightCol w s i (16 * k + 1) (by omega)⟩,
    ⟨S512x128, weightCol w s i (16 * k + 2) (by omega)⟩, ⟨S512x128, weightCol w s i (16 * k + 3) (by omega)⟩,
    ⟨S512x128, weightCol w s i (16 * k + 4) (by omega)⟩, ⟨S512x128, weightCol w s i (16 * k + 5) (by omega)⟩,
    ⟨S512x128, weightCol w s i (16 * k + 6) (by omega)⟩, ⟨S512x128, weightCol w s i (16 * k + 7) (by omega)⟩,
    ⟨S512x128, weightCol w s i (16 * k + 8) (by omega)⟩, ⟨S512x128, weightCol w s i (16 * k + 9) (by omega)⟩,
    ⟨S512x128, weightCol w s i (16 * k + 10) (by omega)⟩, ⟨S512x128, weightCol w s i (16 * k + 11) (by omega)⟩,
    ⟨S512x128, weightCol w s i (16 * k + 12) (by omega)⟩, ⟨S512x128, weightCol w s i (16 * k + 13) (by omega)⟩,
    ⟨S512x128, weightCol w s i (16 * k + 14) (by omega)⟩, ⟨S512x128, weightCol w s i (16 * k + 15) (by omega)⟩]
    concatenates_S512x128_S512x128_S512x128_S512x128_S512x128_S512x128_S512x128_S512x128_S512x128_S512x128_S512x128_S512x128_S512x128_S512x128_S512x128_S512x128_S512x2048_d1

/-- The product of one chunk. -/
def chunkProduct (x : Vec F S512x16384 .bf16) (w : Vec F S512x16384 .fp8e4m3) (s : Vec F S48x128 .f32) (i : grid0.Coords) (k : ℕ) (hk : k < 8) :
    FVec F S512x512 .f32 :=
  matmul dot_S512x2048_S512x2048_S512x512_1_1_0_0_n_n none
    (View.ld x (Rect.unit (s := S512x16384) ![0, 2048 * k] S512x2048.size (fun a => by fin_cases a <;> simp <;> omega)))
    (weightTile w s i k hk) (constant S512x512 .f32 0x00000000#32)

/-- The store of a whole tile. -/
abbrev wholeTile (v : Vec F S512x512 .f32) : View.Piece (Elt F) S512x512 .f32 :=
  ⟨Rect.unit (s := S512x512) ![0, 0] S512x512.size inb_S512x512_S512x512_0_0, v⟩

/-- The store to the accumulator of chunk `k` after the stores `L`. -/
def accCons (M12 : Memref sig .tc .vmem S512x512 .f32) (x : Vec F S512x16384 .bf16) (w : Vec F S512x16384 .fp8e4m3) (s : Vec F S48x128 .f32)
    (i : grid0.Coords) (k : ℕ) (hk : k < 8) (L : List (View.Piece (Elt F) S512x512 .f32)) : List (View.Piece (Elt F) S512x512 .f32) :=
  wholeTile (shapeCast S512x512 (addf
    (M12.view.readCov L (Rect.unit (s := S512x512) ![0, 0] S512x512.size inb_S512x512_S512x512_0_0).toLoadRect)
    (chunkProduct x w s i k hk)) shapeCasts_S512x512_S512x512) :: L

/-- The stores to the accumulator of the chunks `0 … k`. -/
def accPieces (M12 : Memref sig .tc .vmem S512x512 .f32) (x : Vec F S512x16384 .bf16) (w : Vec F S512x16384 .fp8e4m3) (s : Vec F S48x128 .f32)
    (i : grid0.Coords) : (k : ℕ) → k < 8 → List (View.Piece (Elt F) S512x512 .f32)
  | 0, h => [wholeTile (shapeCast S512x512 (chunkProduct x w s i 0 h) shapeCasts_S512x512_S512x512)]
  | k + 1, h => accCons M12 x w s i (k + 1) h (accPieces M12 x w s i k (by omega))

/-! ## The tile, requantised -/

/-- Columns `128 nb …` of the accumulated tile, as loaded after the stores `L`. -/
def tileCols (M12 : Memref sig .tc .vmem S512x512 .f32) (L : List (View.Piece (Elt F) S512x512 .f32)) (nb : ℕ) (h : nb < 4) : FVec F S512x128 .f32 :=
  M12.view.readCov L (Rect.unit (s := S512x512) ![0, 128 * nb] S512x128.size (fun a => by fin_cases a <;> simp <;> omega)).toLoadRect

/-- The stores of the codes by rows. -/
def rowCodePieces (v : (nb : ℕ) → nb < 4 → FVec F S512x128 .f32) : (n : ℕ) → n ≤ 4 → List (View.Piece (Elt F) S512x512 .fp8e4m3)
  | 0, _ => []
  | n + 1, h => ⟨Rect.unit (s := S512x512) ![0, 128 * n] S512x128.size (fun a => by fin_cases a <;> simp <;> omega),
      rowCodes (v n (by omega))⟩ :: rowCodePieces v n (by omega)

/-- The scales by rows put in their lanes of `z`. -/
def rowScales (v : (nb : ℕ) → nb < 4 → FVec F S512x128 .f32) (i : grid0.Coords) (z : FVec F S512x48 .f32) : (n : ℕ) → n ≤ 4 → FVec F S512x48 .f32
  | 0, _ => z
  | n + 1, h => select (cmpi .eq (iota .tc S512x48 32 [1] iota_S512x48_d1_w32)
        (broadcast S512x48 (Scalar.addi (Scalar.muli (BitVec.ofNat 32 (i 1).val) 4#32) (BitVec.ofNat 32 n))))
      (extractStridedSlice S512x48 ![0, 0] (rowScale (v n (by omega))) slices_S512x128_o0_0_S512x48) (rowScales v i z n (by omega))

/-- Rows `128 mb …` of a block of 128 columns. -/
def rowsOf (v : FVec F S512x128 .f32) (mb : ℕ) (h : mb < 4) : FVec F S128x128 .f32 :=
  extractStridedSlice S128x128 ![128 * mb, 0] v ⟨rfl, fun a => by fin_cases a <;> simp <;> omega⟩

/-- The stores of the codes by columns: the first `n` of the sixteen square blocks, block rows running fastest. -/
def colCodePieces (v : (nb : ℕ) → nb < 4 → FVec F S512x128 .f32) : (n : ℕ) → n ≤ 16 → List (View.Piece (Elt F) S512x512 .fp8e4m3)
  | 0, _ => []
  | n + 1, h => ⟨Rect.unit (s := S512x512) ![128 * (n % 4), 128 * (n / 4)] S128x128.size (fun a => by fin_cases a <;> simp <;> omega),
      colCodes (rowsOf (v (n / 4) (by omega)) (n % 4) (by omega))⟩ :: colCodePieces v n (by omega)

/-- The stores of the scales by columns, in the same order. -/
def colScalePieces (v : (nb : ℕ) → nb < 4 → FVec F S512x128 .f32) : (n : ℕ) → n ≤ 16 → List (View.Piece (Elt F) S1x4x512 .f32)
  | 0, _ => []
  | n + 1, h => ⟨Rect.unit (s := S1x4x512) ![0, n % 4, 128 * (n / 4)] S1x1x128.size (fun a => by fin_cases a <;> simp <;> omega),
      shapeCast S1x1x128 (colScale (rowsOf (v (n / 4) (by omega)) (n % 4) (by omega))) shapeCasts_S1x128_S1x1x128⟩ :: colScalePieces v n (by omega)

end Cert.KernelIdeal.Proof
-- ==== Proof.TileValue.lean ====
/-
  The tile functions over the reals: what the scales and the codes of a block of an array are, in terms of that array.
-/
module

public import proofs.«01_k».proof.Proof.Tile
public import proofs.«01_k».proof.Proof.Spec
public import Idealize.ShloMosaic.Lib.Pointwise
public import Idealize.ShloMosaic.Lib.WritesUnit

@[expose] public section

set_option maxRecDepth 16384

noncomputable section

namespace Cert.KernelIdeal.Proof

open Cert.KernelIdeal.Gen
open Idealize.ShloMosaic

/-! ## Scales and codes -/

theorem fieldStep_apply {s : Shape} (x : FVec Ideal s .f32) (b : BitVec 32) (f : IVec s 32) (j : s.Idx) :
    fieldStep x b f j = Quantise.step (x j) b (f j) := rfl

theorem fieldOf_apply {s : Shape} (x : FVec Ideal s .f32) (j : s.Idx) : fieldOf x j = Quantise.field (x j) := by
  have capped : ∀ g : IVec s 32, select (cmpi .eq (minsi g (broadcast s 252#32)) (broadcast s 0#32)) (broadcast s 126#32) (minsi g (broadcast s 252#32)) j
      = Scalar.select (IntOp.cmpi .eq (IntOp.minsi (g j) 252#32) 0#32) 126#32 (IntOp.minsi (g j) 252#32) := fun _ => rfl
  unfold fieldOf Quantise.field
  rw [capped]
  simp only [fieldStep_apply]
  rfl

theorem scaleOf_apply {s : Shape} (f : IVec s 32) (j : s.Idx) :
    scaleOf (F := Ideal) f j = Ideal.ofBits .f32 (IntOp.shli .vector (IntOp.addi (f j) 1#32) 23#32) := rfl

theorem inverseOf_apply {s : Shape} (f : IVec s 32) (j : s.Idx) :
    inverseOf (F := Ideal) f j = Ideal.ofBits .f32 (IntOp.shli .vector (IntOp.subi 253#32 (f j)) 23#32) := rfl

theorem scaleOf_fieldOf {s : Shape} (x : FVec Ideal s .f32) (j : s.Idx) : scaleOf (F := Ideal) (fieldOf x) j = Ideal.exp2 (Quantise.expo (x j)) := by
  rw [scaleOf_apply, fieldOf_apply]
  exact (Quantise.fieldScale_eq (x j)).1

theorem inverseOf_fieldOf {s : Shape} (x : FVec Ideal s .f32) (j : s.Idx) :
    inverseOf (F := Ideal) (fieldOf x) j = Ideal.exp2 (0 - Quantise.expo (x j)) := by
  rw [inverseOf_apply, fieldOf_apply]
  exact (Quantise.fieldScale_eq (x j)).2

theorem codesOf_apply {s : Shape} (v u : FVec Ideal s .f32) (j : s.Idx) :
    codesOf v u j = min (Ideal.ofBits .f32 0x43E00000#32) (max (Ideal.ofBits .f32 0xC3E00000#32) (v j * u j)) := rfl

theorem rowRatio_apply (v : FVec Ideal S512x128 .f32) (r : Fin 512) (l : Fin 128) (f : ℕ → EReal) (hf : ∀ l : Fin 128, v (ix2 r l) = f l.val) :
    rowRatio v (ix2 r l) = Quantise.ratio (Quantise.amax f) := by
  pointwise [rowRatio, Quantise.ratio, Quantise.amax]
  simp only [hf]
  rfl

theorem colRatio_apply (v : FVec Ideal S128x128 .f32) (l : Fin 128) (f : ℕ → EReal) (hf : ∀ k : Fin 128, v (ix2 k l) = f k.val) :
    colRatio v (ix2 0 l) = Quantise.ratio (Quantise.amax f) := by
  pointwise [colRatio, Quantise.ratio, Quantise.amax]
  simp only [hf]
  rfl

/-- A block of 512 rows and one group of columns of `A`, by rows. -/
theorem rowScale_apply (v : FVec Ideal S512x128 .f32) (A : ℕ → ℕ → EReal) (R g : ℕ)
    (hv : ∀ (r : Fin 512) (l : Fin 128), v (ix2 r l) = A (R + r.val) (128 * g + l.val)) (r : Fin 512) (l : Fin 128) :
    rowScale v (ix2 r l) = Quantise.rowScale A (R + r.val) g := by
  refine (scaleOf_fieldOf _ _).trans ?_
  rw [rowRatio_apply v r l (fun l => A (R + r.val) (128 * g + l)) (hv r)]
  rfl

/-- The codes by rows of one group of a tile. -/
theorem rowCodes_apply (v : FVec Ideal S512x128 .f32) (A : ℕ → ℕ → EReal) (R g : ℕ)
    (hv : ∀ (r : Fin 512) (l : Fin 128), v (ix2 r l) = A (R + r.val) (128 * g + l.val)) (r : Fin 512) (l : Fin 128) :
    rowCodes v (ix2 r l) = Quantise.rowCode A (R + r.val) (128 * g + l.val) := by
  refine (codesOf_apply _ _ _).trans ?_
  rw [show inverseOf (F := Ideal) (rowField v) (ix2 r l) = _ from inverseOf_fieldOf _ _,
    rowRatio_apply v r l (fun l => A (R + r.val) (128 * g + l)) (hv r), hv]
  unfold Quantise.rowCode Quantise.code Quantise.rowMax
  rw [show (128 * g + l.val) / 128 = g by omega]

/-- A square block of `A`, by columns. -/
theorem colScale_apply (v : FVec Ideal S128x128 .f32) (A : ℕ → ℕ → EReal) (h C : ℕ)
    (hv : ∀ (k l : Fin 128), v (ix2 k l) = A (128 * h + k.val) (C + l.val)) (l : Fin 128) :
    colScale v (ix2 0 l) = Quantise.colScale A h (C + l.val) := by
  refine (scaleOf_fieldOf _ _).trans ?_
  rw [colRatio_apply v l (fun k => A (128 * h + k) (C + l.val)) (fun k => hv k l)]
  rfl

/-- The codes by columns of one group of a tile. -/
theorem colCodes_apply (v : FVec Ideal S128x128 .f32) (A : ℕ → ℕ → EReal) (h C : ℕ)
    (hv : ∀ (k l : Fin 128), v (ix2 k l) = A (128 * h + k.val) (C + l.val)) (k l : Fin 128) :
    colCodes v (ix2 k l) = Quantise.colCode A (128 * h + k.val) (C + l.val) := by
  refine (codesOf_apply _ _ _).trans ?_
  have hb : broadcastTo S128x128 (inverseOf (F := Ideal) (colField v)) broadcasts_S1x128_S128x128 (ix2 k l)
      = inverseOf (F := Ideal) (colField v) (ix2 0 l) := by pointwise []
  rw [hb, show inverseOf (F := Ideal) (colField v) (ix2 0 l) = _ from inverseOf_fieldOf _ _,
    colRatio_apply v l (fun k => A (128 * h + k) (C + l.val)) (fun k => hv k l), hv]
  unfold Quantise.colCode Quantise.code Quantise.colMax
  rw [show (128 * h + k.val) / 128 = h by omega]

/-! ## One chunk of `dy` -/

section Chunk

variable (x : Vec Ideal S512x2048 .bf16) (A : ℕ → ℕ → EReal) (R c : ℕ)
  (hx : ∀ (r : Fin 512) (k : Fin 2048), x (ix2 r k) = A (R + r.val) (2048 * c + k.val))

include hx

/-- The gradient's codes of one group. -/
theorem dyCols_apply (g : ℕ) (h : g < 16) (r : Fin 512) (l : Fin 128) :
    dyCols x g h (ix2 r l) = A (R + r.val) (128 * (16 * c + g) + l.val) := by
  have : dyCols x g h (ix2 r l) = x (ix2 r ⟨128 * g + l.val, by omega⟩) := by
    pointwise [dyCols]
  rw [this, hx]
  congr 1
  simp only
  omega

/-- The gradient's dequantised values of one group. -/
theorem dyDeq_apply (g : ℕ) (h : g < 16) (a : Fin 1) (r : Fin 512) (l : Fin 128) :
    dyDeq (dyCols x g h) (ix3 a r l) = Quantise.deq A (R + r.val) (128 * (16 * c + g) + l.val) := by
  have : dyDeq (dyCols x g h) (ix3 a r l) = rowCodes (dyCols x g h) (ix2 r l) * rowScale (dyCols x g h) (ix2 r l) := by
    pointwise [dyDeq]
  rw [this, rowCodes_apply _ A R (16 * c + g) (dyCols_apply x A R c hx g h), rowScale_apply _ A R (16 * c + g) (dyCols_apply x A R c hx g h)]
  unfold Quantise.deq
  rw [show (128 * (16 * c + g) + l.val) / 128 = 16 * c + g by omega]

/-- The codes the first `n` groups' stores leave. -/
theorem read_dyCodePieces {κ : Kind} {sp : Space} (v : View sig κ sp S512x2048 .fp8e4m3) (f : v.ty.Contents (Elt Ideal)) (n : ℕ) (h : n ≤ 16)
    (r : Fin 512) (k : Fin 2048) (hk : k.val < 128 * n) :
    v.read (Elt Ideal) (v.writes (Elt Ideal) f (dyCodePieces x n h)) (ix2 r k) = Quantise.rowCode A (R + r.val) (2048 * c + k.val) := by
  induction n with
  | zero => omega
  | succ n ih =>
    by_cases hn : k.val < 128 * n
    · refine (View.read_writes_cons_unit_of_not_mem v f _ _ _ (ix2 r k) rfl 1 (Or.inl ?_)).trans (ih (by omega) hn)
      simpa using hn
    · refine (View.read_writes_cons_unit_of_mem v f _ _ _ (ix2 r k) (ix2 r ⟨k.val - 128 * n, by omega⟩) rfl ?_).trans ?_
      · intro a
        fin_cases a <;> simp <;> omega
      · rw [rowCodes_apply _ A R (16 * c + n) (dyCols_apply x A R c hx n (by omega))]
        congr 1
        simp only
        omega

end Chunk

end Cert.KernelIdeal.Proof
-- ==== Proof.ChunkValue.lean ====
/-
  What one chunk of `dy` leaves, over the reals: its dequantised columns in one half of the buffer, and its scales in their
  lanes.
-/
module

public import proofs.«01_k».proof.Proof.TileValue

@[expose] public section

set_option maxRecDepth 16384

noncomputable section

namespace Cert.KernelIdeal.Proof

open Cert.KernelIdeal.Gen
open Idealize.ShloMosaic

variable (x : Vec Ideal S512x2048 .bf16) (i : grid0.Coords) (A : ℕ → ℕ → EReal) (R : ℕ)

/-- The dequantised columns that the first `n` groups' stores leave. -/
theorem read_dyDeqPieces (hx : ∀ (r : Fin 512) (k : Fin 2048), x (ix2 r k) = A (R + r.val) (2048 * chunk i + k.val))
    {κ : Kind} {sp : Space} (v : View sig κ sp S2x512x16384 .bf16) (f : v.ty.Contents (Elt Ideal)) (n : ℕ) (h : n ≤ 16)
    (s : Fin 2) (r : Fin 512) (k : Fin 16384) (hs : s.val = (i 0).val % 2) (h1 : 2048 * chunk i ≤ k.val) (h2 : k.val < 2048 * chunk i + 128 * n) :
    v.read (Elt Ideal) (v.writes (Elt Ideal) f (dyDeqPieces x i n h)) (ix3 s r k) = Quantise.deq A (R + r.val) k.val := by
  induction n with
  | zero => omega
  | succ n ih =>
    by_cases hn : k.val < 2048 * chunk i + 128 * n
    · refine (View.read_writes_cons_unit_of_not_mem v f _ _ _ (ix3 s r k) (off3_eq i ⟨n, h⟩) 2 (Or.inl ?_)).trans (ih (by omega) hn)
      simpa using hn
    · refine (View.read_writes_cons_unit_of_mem v f _ _ _ (ix3 s r k) (ix3 0 r ⟨k.val - (2048 * chunk i + 128 * n), by omega⟩) (off3_eq i ⟨n, h⟩) ?_).trans ?_
      · intro a
        fin_cases a <;> simp <;> omega
      · rw [dyDeq_apply x A R (chunk i) hx]
        congr 1
        simp only
        omega

/-- Elsewhere the buffer keeps its contents. -/
theorem read_dyDeqPieces_miss {κ : Kind} {sp : Space} (v : View sig κ sp S2x512x16384 .bf16) (f : v.ty.Contents (Elt Ideal)) (n : ℕ) (h : n ≤ 16)
    (s : Fin 2) (r : Fin 512) (k : Fin 16384) (hk : s.val ≠ (i 0).val % 2 ∨ k.val < 2048 * chunk i ∨ 2048 * chunk i + 128 * n ≤ k.val) :
    v.read (Elt Ideal) (v.writes (Elt Ideal) f (dyDeqPieces x i n h)) (ix3 s r k) = v.read (Elt Ideal) f (ix3 s r k) := by
  induction n with
  | zero => rfl
  | succ n ih =>
    refine Eq.trans ?_ (ih (by omega) (by omega))
    by_cases hs : s.val ≠ (i 0).val % 2
    · refine View.read_writes_cons_unit_of_not_mem v f _ _ _ (ix3 s r k) (off3_eq i ⟨n, h⟩) 0 ?_
      simp
      omega
    · refine View.read_writes_cons_unit_of_not_mem v f _ _ _ (ix3 s r k) (off3_eq i ⟨n, h⟩) 2 ?_
      simp
      omega

/-- The lane of group `n` of the chunk. -/
theorem lane_eq (n : ℕ) (hn : n < 16) (g : Fin 128) :
    IntOp.cmpi .eq (BitVec.ofNat 32 g.val) (Scalar.addi (groupWord i) (BitVec.ofNat 32 n)) = BitVec.ofBool (decide (g.val = 16 * chunk i + n)) := by
  rw [groupWord_eq]
  have hc := chunk_lt i
  revert hc
  generalize chunk i = c
  intro hc
  have : ∀ (c : Fin 8) (n : Fin 16) (g : Fin 128), IntOp.cmpi .eq (BitVec.ofNat 32 g.val) (Scalar.addi (BitVec.ofNat 32 (16 * c.val)) (BitVec.ofNat 32 n.val))
      = BitVec.ofBool (decide (g.val = 16 * c.val + n.val)) := by decide +kernel
  exact this ⟨c, hc⟩ ⟨n, hn⟩ g

/-- The scales in their lanes; the other lanes keep their contents. -/
theorem dyScales_apply (hx : ∀ (r : Fin 512) (k : Fin 2048), x (ix2 r k) = A (R + r.val) (2048 * chunk i + k.val))
    (z : FVec Ideal S512x128 .f32) (n : ℕ) (h : n ≤ 16) (r : Fin 512) (g : Fin 128) :
    dyScales x i z n h (ix2 r g) = if 16 * chunk i ≤ g.val ∧ g.val < 16 * chunk i + n then Quantise.rowScale A (R + r.val) g.val else z (ix2 r g) := by
  induction n with
  | zero => rw [if_neg (by omega)]; rfl
  | succ n ih =>
    have step : dyScales x i z (n + 1) h (ix2 r g)
        = Scalar.select (IntOp.cmpi .eq (BitVec.ofNat 32 g.val) (Scalar.addi (groupWord i) (BitVec.ofNat 32 n)))
            (rowScale (dyCols x n (by omega)) (ix2 r g)) (dyScales x i z n (by omega) (ix2 r g)) := by
      rw [dyScales]
      pointwise []
    rw [step, lane_eq i n h g, rowScale_apply _ A R (16 * chunk i + n) (dyCols_apply x A R (chunk i) hx n (by omega)), ih]
    by_cases hg : g.val = 16 * chunk i + n
    · rw [if_pos (show 16 * chunk i ≤ g.val ∧ g.val < 16 * chunk i + (n + 1) by omega), hg]
      simp [Scalar.select]
    · have hiff : (16 * chunk i ≤ g.val ∧ g.val < 16 * chunk i + (n + 1)) ↔ (16 * chunk i ≤ g.val ∧ g.val < 16 * chunk i + n) := by omega
      simp only [hiff]
      simp [Scalar.select, hg]

end Cert.KernelIdeal.Proof
-- ==== Proof.Pieces.lean ====
/-
  The stores of the two runs of the body, as lists over the blocks read: each list of the run is the corresponding list of
  the tile's functions.
-/
module

public import proofs.«01_k».proof.Proof.Tile

@[expose] public section

set_option maxRecDepth 16384

noncomputable section

namespace Cert.KernelIdeal.Proof

open Cert.KernelIdeal.Gen
open Idealize.ShloMosaic

variable {F : FTy → Type} [FloatOps F]

section First

variable (c : Dev nD) (i : grid0.Coords) (hc1 : k0_cond1 i = 1#1)
  (M3 : Memref sig .tc .vmem S512x2048 .bf16) (M10 : Memref sig .tc .vmem S512x128 .f32) (f3 : Bf (F := F) c M3) (f10 : Bf (F := F) c M10)

theorem runFirst_codes : runFirst.sl.H9_16 c M3 f3 = dyCodePieces (M3.view.read (Elt F) f3) 16 (le_refl _) := rfl

theorem runFirst_scales : runFirst.sl.H10_1 c i M3 M10 f3 f10
    = [⟨Rect.unit (s := S512x128) ![0, 0] S512x128.size inb_S512x128_S512x128_0_0,
        dyScales (M3.view.read (Elt F) f3) i (shapeCast S512x128 (View.ld (M10.view.read (Elt F) f10)
          (Rect.unit (s := S512x128) ![0, 0] S512x128.size inb_S512x128_S512x128_0_0)) shapeCasts_S512x128_S512x128) 16 (le_refl _)⟩] := rfl

theorem runFirst_deq : runFirst.sl.H11_15 c i hc1 M3 f3 = dyDeqPieces (M3.view.read (Elt F) f3) i 15 (by omega) := rfl

end First

section Next

variable (c : Dev nD) (i : grid0.Coords) (hc2 : k0_cond2 i = 1#1)
  (M2 : Memref sig .tc .smem S48x128 .f32) (M3 : Memref sig .tc .vmem S512x2048 .bf16) (M4 : Memref sig .tc .vmem S512x16384 .fp8e4m3)
  (M5 : Memref sig .tc .vmem S512x512 .fp8e4m3) (M6 : Memref sig .tc .vmem S512x48 .f32) (M10 : Memref sig .tc .vmem S512x128 .f32)
  (M11 : Memref sig .tc .vmem S2x512x16384 .bf16) (M12 : Memref sig .tc .vmem S512x512 .f32)
  (f2 : Bf (F := F) c M2) (f3 : Bf (F := F) c M3) (f4 : Bf (F := F) c M4) (f6 : Bf (F := F) c M6) (f10 : Bf (F := F) c M10) (f11 : Bf (F := F) c M11)

theorem runNext_codes : runNext.sl.H9_16 c M3 f3 = dyCodePieces (M3.view.read (Elt F) f3) 16 (le_refl _) := rfl

theorem runNext_scales : runNext.sl.H10_1 c i M3 M10 f3 f10
    = [⟨Rect.unit (s := S512x128) ![0, 0] S512x128.size inb_S512x128_S512x128_0_0,
        dyScales (M3.view.read (Elt F) f3) i (shapeCast S512x128 (View.ld (M10.view.read (Elt F) f10)
          (Rect.unit (s := S512x128) ![0, 0] S512x128.size inb_S512x128_S512x128_0_0)) shapeCasts_S512x128_S512x128) 16 (le_refl _)⟩] := rfl

theorem runNext_deq : runNext.sl.H11_16 c i hc2 M3 f3 = dyDeqPieces (M3.view.read (Elt F) f3) i 16 (by omega) := rfl

/-- The dequantised rows the product reads: the other half of the buffer, after this point's stores. -/
def deqRead : Vec F S512x16384 .bf16 :=
  ((M11.slice (Rect.unit (s := S2x512x16384) (k0_off23 i) S1x512x16384.size (k0_off23_inb i hc2)) (fun _ => rfl)).squeeze S512x16384
    squeezes_S1x512x16384_S512x16384).view.read (Elt F) (M11.view.writes (Elt F) f11 (runNext.sl.H11_16 c i hc2 M3 f3))

theorem acc1 : runNext.sl.H12_1 c i hc2 M2 M3 M4 M11 f2 f3 f4 f11 = accPieces M12 (deqRead c i hc2 M3 M11 f3 f11) (M4.view.read (Elt F) f4) (M2.view.read (Elt F) f2) i 0 (by omega) := rfl

theorem acc2 : runNext.sl.H12_2 c i hc2 M2 M3 M4 M11 M12 f2 f3 f4 f11
    = accCons M12 (deqRead c i hc2 M3 M11 f3 f11) (M4.view.read (Elt F) f4) (M2.view.read (Elt F) f2) i 1 (by omega) (runNext.sl.H12_1 c i hc2 M2 M3 M4 M11 f2 f3 f4 f11) := rfl
theorem acc3 : runNext.sl.H12_3 c i hc2 M2 M3 M4 M11 M12 f2 f3 f4 f11
    = accCons M12 (deqRead c i hc2 M3 M11 f3 f11) (M4.view.read (Elt F) f4) (M2.view.read (Elt F) f2) i 2 (by omega) (runNext.sl.H12_2 c i hc2 M2 M3 M4 M11 M12 f2 f3 f4 f11) := rfl
theorem acc4 : runNext.sl.H12_4 c i hc2 M2 M3 M4 M11 M12 f2 f3 f4 f11
    = accCons M12 (deqRead c i hc2 M3 M11 f3 f11) (M4.view.read (Elt F) f4) (M2.view.read (Elt F) f2) i 3 (by omega) (runNext.sl.H12_3 c i hc2 M2 M3 M4 M11 M12 f2 f3 f4 f11) := rfl
theorem acc5 : runNext.sl.H12_5 c i hc2 M2 M3 M4 M11 M12 f2 f3 f4 f11
    = accCons M12 (deqRead c i hc2 M3 M11 f3 f11) (M4.view.read (Elt F) f4) (M2.view.read (Elt F) f2) i 4 (by omega) (runNext.sl.H12_4 c i hc2 M2 M3 M4 M11 M12 f2 f3 f4 f11) := rfl
theorem acc6 : runNext.sl.H12_6 c i hc2 M2 M3 M4 M11 M12 f2 f3 f4 f11
    = accCons M12 (deqRead c i hc2 M3 M11 f3 f11) (M4.view.read (Elt F) f4) (M2.view.read (Elt F) f2) i 5 (by omega) (runNext.sl.H12_5 c i hc2 M2 M3 M4 M11 M12 f2 f3 f4 f11) := rfl
theorem acc7 : runNext.sl.H12_7 c i hc2 M2 M3 M4 M11 M12 f2 f3 f4 f11
    = accCons M12 (deqRead c i hc2 M3 M11 f3 f11) (M4.view.read (Elt F) f4) (M2.view.read (Elt F) f2) i 6 (by omega) (runNext.sl.H12_6 c i hc2 M2 M3 M4 M11 M12 f2 f3 f4 f11) := rfl
theorem acc8 : runNext.sl.H12_8 c i hc2 M2 M3 M4 M11 M12 f2 f3 f4 f11
    = accCons M12 (deqRead c i hc2 M3 M11 f3 f11) (M4.view.read (Elt F) f4) (M2.view.read (Elt F) f2) i 7 (by omega) (runNext.sl.H12_7 c i hc2 M2 M3 M4 M11 M12 f2 f3 f4 f11) := rfl

/-- The stores to the accumulator, all eight chunks. -/
theorem runNext_acc : runNext.sl.H12_8 c i hc2 M2 M3 M4 M11 M12 f2 f3 f4 f11 = accPieces M12 (deqRead c i hc2 M3 M11 f3 f11) (M4.view.read (Elt F) f4) (M2.view.read (Elt F) f2) i 7 (by omega) := by
  rw [acc8, acc7, acc6, acc5, acc4, acc3, acc2, acc1 (M12 := M12)]
  rfl

/-- The columns of the accumulated tile. -/
def accCols : (nb : ℕ) → nb < 4 → FVec F S512x128 .f32 := tileCols M12 (runNext.sl.H12_8 c i hc2 M2 M3 M4 M11 M12 f2 f3 f4 f11)

theorem runNext_rowCodes : runNext.sl.H5_4 c i hc2 M2 M3 M4 M11 M12 f2 f3 f4 f11
    = rowCodePieces (accCols c i hc2 M2 M3 M4 M11 M12 f2 f3 f4 f11) 4 (le_refl _) := rfl

theorem runNext_rowScales : runNext.sl.H6_1 c i hc2 M2 M3 M4 M6 M11 M12 f2 f3 f4 f6 f11
    = [⟨Rect.unit (s := S512x48) ![0, 0] S512x48.size inb_S512x48_S512x48_0_0,
        rowScales (accCols c i hc2 M2 M3 M4 M11 M12 f2 f3 f4 f11) i (shapeCast S512x48 (View.ld (M6.view.read (Elt F) f6)
          (Rect.unit (s := S512x48) ![0, 0] S512x48.size inb_S512x48_S512x48_0_0)) shapeCasts_S512x48_S512x48) 4 (le_refl _)⟩] := rfl

theorem runNext_colCodes : runNext.sl.H7_16 c i hc2 M2 M3 M4 M11 M12 f2 f3 f4 f11
    = colCodePieces (accCols c i hc2 M2 M3 M4 M11 M12 f2 f3 f4 f11) 16 (le_refl _) := rfl

theorem runNext_colScales : runNext.sl.H8_16 c i hc2 M2 M3 M4 M11 M12 f2 f3 f4 f11
    = colScalePieces (accCols c i hc2 M2 M3 M4 M11 M12 f2 f3 f4 f11) 16 (le_refl _) := rfl

end Next

end Cert.KernelIdeal.Proof
-- ==== Proof.Witness.lean ====
/-
  What the two runs of the body leave in the buffers they store to, as the tile's lists of stores.
-/
module

public import proofs.«01_k».proof.Proof.Pieces
public import proofs.«01_k».proof.Proof.Pipeline

@[expose] public section

set_option maxRecDepth 16384

noncomputable section

namespace Cert.KernelIdeal.Proof

open Cert.KernelIdeal.Gen
open Idealize.ShloMosaic
open Idealize.ShloMosaic.TcCoe

variable {F : FTy → Type} [FloatOps F]

variable (c : Dev nD) (𝒱₀ : Variants) (i : grid0.Coords)
  (M2 : Memref sig .tc .smem S48x128 .f32) (h2 : M2.IsWhole) (M3 : Memref sig .tc .vmem S512x2048 .bf16) (h3 : M3.IsWhole)
  (M4 : Memref sig .tc .vmem S512x16384 .fp8e4m3) (h4 : M4.IsWhole) (M5 : Memref sig .tc .vmem S512x512 .fp8e4m3) (h5 : M5.IsWhole)
  (M6 : Memref sig .tc .vmem S512x48 .f32) (h6 : M6.IsWhole) (M7 : Memref sig .tc .vmem S512x512 .fp8e4m3) (h7 : M7.IsWhole)
  (M8 : Memref sig .tc .vmem S1x4x512 .f32) (h8 : M8.IsWhole) (M9 : Memref sig .tc .vmem S512x2048 .fp8e4m3) (h9 : M9.IsWhole)
  (M10 : Memref sig .tc .vmem S512x128 .f32) (h10 : M10.IsWhole) (M11 : Memref sig .tc .vmem S2x512x16384 .bf16) (h11 : M11.IsWhole)
  (M12 : Memref sig .tc .vmem S512x512 .f32) (h12 : M12.IsWhole)
  (f2 : Bf (F := F) c M2) (f3 : Bf (F := F) c M3) (f4 : Bf (F := F) c M4) (f5 : Bf (F := F) c M5) (f6 : Bf (F := F) c M6)
  (f7 : Bf (F := F) c M7) (f8 : Bf (F := F) c M8) (f9 : Bf (F := F) c M9) (f10 : Bf (F := F) c M10) (f11 : Bf (F := F) c M11)
  (f12 : Bf (F := F) c M12)

/-- The store to the scales of `dy`: the chunk's lanes over what the buffer held. -/
abbrev dyScalePieces : List (View.Piece (Elt F) S512x128 .f32) :=
  [⟨Rect.unit (s := S512x128) ![0, 0] S512x128.size inb_S512x128_S512x128_0_0,
    dyScales (M3.view.read (Elt F) f3) i (shapeCast S512x128 (View.ld (M10.view.read (Elt F) f10)
      (Rect.unit (s := S512x128) ![0, 0] S512x128.size inb_S512x128_S512x128_0_0)) shapeCasts_S512x128_S512x128) 16 (le_refl _)⟩]

section First

variable (hc1 : k0_cond1 i = 1#1) (hc2 : ¬ k0_cond2 i = 1#1)

/-- At a point of the first row block. -/
theorem runFirst_val :
    (runFirst c 𝒱₀ i hc1 hc2 M2 h2 M3 h3 M4 h4 M5 h5 M6 h6 M7 h7 M8 h8 M9 h9 M10 h10 M11 h11 M12 h12 f2 f3 f4 f5 f6 f7 f8 f9 f10 f11 f12).1
      = (M9.view.writes (Elt F) M9.view.junk (dyCodePieces (M3.view.read (Elt F) f3) 16 (le_refl _)),
        M10.view.writes (Elt F) M10.view.junk (dyScalePieces c i M3 M10 f3 f10),
        M11.view.writes (Elt F) f11 (dyDeqPieces (M3.view.read (Elt F) f3) i 16 (le_refl _))) := rfl

end First

section Next

variable (hc1 : ¬ k0_cond1 i = 1#1) (hc2 : k0_cond2 i = 1#1)

/-- At a later point. -/
theorem runNext_val :
    (runNext c 𝒱₀ i hc1 hc2 M2 h2 M3 h3 M4 h4 M5 h5 M6 h6 M7 h7 M8 h8 M9 h9 M10 h10 M11 h11 M12 h12 f2 f3 f4 f5 f6 f7 f8 f9 f10 f11 f12).1
      = (M5.view.writes (Elt F) M5.view.junk (rowCodePieces (accCols c i hc2 M2 M3 M4 M11 M12 f2 f3 f4 f11) 4 (le_refl _)),
        M6.view.writes (Elt F) M6.view.junk [⟨Rect.unit (s := S512x48) ![0, 0] S512x48.size inb_S512x48_S512x48_0_0,
          rowScales (accCols c i hc2 M2 M3 M4 M11 M12 f2 f3 f4 f11) i (shapeCast S512x48 (View.ld (M6.view.read (Elt F) f6)
            (Rect.unit (s := S512x48) ![0, 0] S512x48.size inb_S512x48_S512x48_0_0)) shapeCasts_S512x48_S512x48) 4 (le_refl _)⟩],
        M7.view.writes (Elt F) M7.view.junk (colCodePieces (accCols c i hc2 M2 M3 M4 M11 M12 f2 f3 f4 f11) 16 (le_refl _)),
        M8.view.writes (Elt F) M8.view.junk (colScalePieces (accCols c i hc2 M2 M3 M4 M11 M12 f2 f3 f4 f11) 16 (le_refl _)),
        M9.view.writes (Elt F) M9.view.junk (dyCodePieces (M3.view.read (Elt F) f3) 16 (le_refl _)),
        M10.view.writes (Elt F) M10.view.junk (dyScalePieces c i M3 M10 f3 f10),
        M11.view.writes (Elt F) f11 (dyDeqPieces (M3.view.read (Elt F) f3) i 16 (le_refl _)),
        M12.view.writes (Elt F) M12.view.junk (accPieces M12 (deqRead c i hc2 M3 M11 f3 f11) (M4.view.read (Elt F) f4) (M2.view.read (Elt F) f2) i 7 (by omega))) := by
  rw [← runNext_rowCodes, ← runNext_rowScales, ← runNext_colCodes, ← runNext_colScales, ← runNext_acc]
  rfl

end Next

end Cert.KernelIdeal.Proof
-- ==== Proof.Track.lean ====
/-
  What the kernel knows of its buffers from point to point, over the reals: the track the pipeline is run with. The grid
  point `t = 12 i + j` quantises a chunk of row block `min i 23` of `dy` and, for `i ≥ 1`, computes the product's tile of row
  block `i - 1` and column block `j`.
-/
module

public import proofs.«01_k».proof.Proof.Blocks
public import proofs.«01_k».proof.Proof.ChunkValue
public import proofs.«01_k».proof.Proof.Witness

@[expose] public section

set_option maxRecDepth 16384

noncomputable section

namespace Cert.KernelIdeal.Proof

open Cert.KernelIdeal.Gen
open Idealize.ShloMosaic
open Idealize.ShloMosaic.TcCoe

variable (m : (ℓ : Loc nD τ sig) → Buf (Elt Ideal) ℓ) (c : Dev nD)

/-- The product of the dequantised gradient with the dequantised weight. -/
def arrP : ℕ → ℕ → EReal := Quantise.prod (arrA m c) (arrW m c) (arrS m c)

/-- The dequantised rows before point `u = 12 i + j`: the chunks already quantised of row block `i`, and all of row block `i - 1`. -/
def DeqKnown (u : ℕ) (D : S2x512x16384.Idx → EReal) : Prop :=
  (u / 12 < 24 → ∀ (s : Fin 2) (r : Fin 512) (k : Fin 16384), s.val = u / 12 % 2 → k.val < 2048 * min (u % 12) 8 →
      D (ix3 s r k) = Quantise.deq (arrA m c) (512 * (u / 12) + r.val) k.val)
    ∧ (12 ≤ u → u < 300 → ∀ (s : Fin 2) (r : Fin 512) (k : Fin 16384), s.val = 1 - u / 12 % 2 →
      D (ix3 s r k) = Quantise.deq (arrA m c) (512 * (u / 12 - 1) + r.val) k.val)

/-- The track. -/
def track : Track Ideal where
  r3 t X := 12 ≤ t.val → ∀ r n : Fin 512, X (ix2 r n) = Quantise.rowCode (arrP m c) (512 * (t.val / 12 - 1) + r.val) (512 * (t.val % 12) + n.val)
  r4 t X := 12 ≤ t.val → ∀ (r : Fin 512) (g : Fin 48), g.val < 4 * (t.val % 12 + 1) →
    X (ix2 r g) = Quantise.rowScale (arrP m c) (512 * (t.val / 12 - 1) + r.val) g.val
  r5 t X := 12 ≤ t.val → ∀ r n : Fin 512, X (ix2 r n) = Quantise.colCode (arrP m c) (512 * (t.val / 12 - 1) + r.val) (512 * (t.val % 12) + n.val)
  r6 t X := 12 ≤ t.val → ∀ (a : Fin 1) (h : Fin 4) (n : Fin 512),
    X (ix3 a h n) = Quantise.colScale (arrP m c) (4 * (t.val / 12 - 1) + h.val) (512 * (t.val % 12) + n.val)
  r7 t X := ∀ (r : Fin 512) (k : Fin 2048),
    X (ix2 r k) = Quantise.rowCode (arrA m c) (512 * min (t.val / 12) 23 + r.val) (2048 * chunk (grid0.coords t) + k.val)
  r8 t X := ∀ (r : Fin 512) (g : Fin 128), g.val < 16 * (chunk (grid0.coords t) + 1) →
    X (ix2 r g) = Quantise.rowScale (arrA m c) (512 * min (t.val / 12) 23 + r.val) g.val
  deq u D := DeqKnown m c u.val (mDeq.view.read (Elt Ideal) D)

/-- The track of the scratch. -/
theorem track_deq (u : Fin (cfg0.N + 1)) (D : Vec Ideal S2x512x16384 .bf16) :
    (track m c).deq u D = DeqKnown m c u.val (mDeq.view.read (Elt Ideal) D) := rfl

/-- The chunk of columns that a point quantises. -/
theorem chunk_eq (t : Fin cfg0.N) : chunk (grid0.coords t) = if t.val / 12 = 24 then 7 else min (t.val % 12) 7 := by
  unfold chunk
  rw [coords0, coords1]

theorem lt_300 (t : Fin cfg0.N) : t.val < 300 := t.isLt

/-- The point's chunk joins the dequantised rows. -/
theorem deqKnown_step (t : Fin cfg0.N) (x : FVec Ideal S512x2048 .bf16)
    (hx : ∀ (r : Fin 512) (k : Fin 2048), x (ix2 r k) = arrA m c (512 * min (t.val / 12) 23 + r.val) (2048 * chunk (grid0.coords t) + k.val))
    {κ : Kind} {sp : Space} (v : View sig κ sp S2x512x16384 .bf16) (f : v.ty.Contents (Elt Ideal)) (hD : DeqKnown m c t.val (v.read (Elt Ideal) f)) :
    DeqKnown m c (t.val + 1) (v.read (Elt Ideal) (v.writes (Elt Ideal) f (dyDeqPieces x (grid0.coords t) 16 (le_refl _)))) := by
  have ht := lt_300 t
  have hch := chunk_eq t
  have h0 := coords0 t
  have hit := read_dyDeqPieces x (grid0.coords t) (arrA m c) (512 * min (t.val / 12) 23) hx v f 16 (le_refl _)
  have miss := read_dyDeqPieces_miss x (grid0.coords t) v f 16 (le_refl _)
  rw [h0] at hit miss
  constructor
  · intro hu s r k hs hk
    by_cases h : 2048 * chunk (grid0.coords t) ≤ k.val ∧ (t.val + 1) / 12 = t.val / 12
    · refine (hit s r k (by omega) h.1 ?_).trans ?_
      · split_ifs at hch <;> omega
      · rw [show min (t.val / 12) 23 = (t.val + 1) / 12 by omega]
    · refine (miss s r k ?_).trans ?_
      · split_ifs at hch <;> omega
      · refine (hD.1 (by omega) s r k ?_ ?_).trans ?_ <;> split_ifs at hch <;> first | omega | skip
        rw [show t.val / 12 = (t.val + 1) / 12 by omega]
  · intro hu1 hu2 s r k hs
    by_cases hj : t.val % 12 = 11
    · by_cases h : 2048 * chunk (grid0.coords t) ≤ k.val
      · refine (hit s r k (by omega) h ?_).trans ?_
        · split_ifs at hch <;> omega
        · rw [show min (t.val / 12) 23 = (t.val + 1) / 12 - 1 by omega]
      · refine (miss s r k (by omega)).trans ((hD.1 (by omega) s r k (by omega) ?_).trans ?_)
        · omega
        · rw [show t.val / 12 = (t.val + 1) / 12 - 1 by omega]
    · refine (miss s r k (by omega)).trans ((hD.2 (by omega) (by omega) s r k (by omega)).trans ?_)
      rw [show t.val / 12 = (t.val + 1) / 12 by omega]

/-- The point's codes of `dy`. -/
theorem r7_step (t : Fin cfg0.N) (x : FVec Ideal S512x2048 .bf16)
    (hx : ∀ (r : Fin 512) (k : Fin 2048), x (ix2 r k) = arrA m c (512 * min (t.val / 12) 23 + r.val) (2048 * chunk (grid0.coords t) + k.val))
    {κ : Kind} {sp : Space} (v : View sig κ sp S512x2048 .fp8e4m3) (f : v.ty.Contents (Elt Ideal)) :
    (track m c).r7 t (v.read (Elt Ideal) (v.writes (Elt Ideal) f (dyCodePieces x 16 (le_refl _)))) := by
  intro r k
  exact read_dyCodePieces x (arrA m c) _ _ hx v f 16 (le_refl _) r k (by omega)

/-- What the scales of `dy` held before the point. -/
theorem inherit8 (t : Fin cfg0.N) (X : S512x128.Idx → EReal) (h : (rdat m (track m c) c).Finds 8 t X) :
    ∀ (r : Fin 512) (g : Fin 128), g.val < 16 * chunk (grid0.coords t) →
      X (ix2 r g) = Quantise.rowScale (arrA m c) (512 * min (t.val / 12) 23 + r.val) g.val := by
  intro r g hg
  have ht := lt_300 t
  have hch := chunk_eq t
  have h0 : t.val ≠ 0 := by split_ifs at hch <;> omega
  have hp := chunk_eq ⟨t.val - 1, by omega⟩
  simp only at hp
  obtain hf | ⟨Y, -, hY⟩ := ((rdat m (track m c) c).finds_of_pos (w := 8) (by rfl) h0 X).1 h
  · have := flush8 _ hf
    simp only at this
    split_ifs at hch <;> omega
  · refine (hY r g ?_).trans ?_
    · split_ifs at hch hp <;> omega
    · simp only
      rw [show min ((t.val - 1) / 12) 23 = min (t.val / 12) 23 by split_ifs at hch <;> omega]

/-- The point's scales of `dy`, over what was there. -/
theorem r8_step (t : Fin cfg0.N) (M3 : Memref sig .tc .vmem S512x2048 .bf16) (M10 : Memref sig .tc .vmem S512x128 .f32)
    (f3 : Bf (F := Ideal) c M3) (f10 : Bf (F := Ideal) c M10)
    (hx : ∀ (r : Fin 512) (k : Fin 2048), M3.view.read (Elt Ideal) f3 (ix2 r k) = arrA m c (512 * min (t.val / 12) 23 + r.val) (2048 * chunk (grid0.coords t) + k.val))
    (h : (rdat m (track m c) c).Finds 8 t (M10.view.read (Elt Ideal) f10)) (f : M10.view.ty.Contents (Elt Ideal)) :
    (track m c).r8 t (M10.view.read (Elt Ideal) (M10.view.writes (Elt Ideal) f (dyScalePieces c (grid0.coords t) M3 M10 f3 f10))) := by
  intro r g hg
  refine (View.read_writes_cons_unit_of_mem M10.view f _ _ _ (ix2 r g) (ix2 r g) rfl ?_).trans ?_
  · intro a; fin_cases a <;> simp
  · refine (dyScales_apply _ (grid0.coords t) (arrA m c) _ hx _ 16 (le_refl _) r g).trans ?_
    by_cases hg' : 16 * chunk (grid0.coords t) ≤ g.val
    · rw [if_pos ⟨hg', by omega⟩]
    · rw [if_neg (by omega)]
      refine Eq.trans ?_ (inherit8 m c t _ h r g (by omega))
      generalize M10.view.read (Elt Ideal) f10 = z
      pointwise []

end Cert.KernelIdeal.Proof
-- ==== Proof.ProductValue.lean ====
/-
  The tile of the product, over the reals: eight chunks of 2048 columns added up are the sum over all 16384.
-/
module

public import proofs.«01_k».proof.Proof.TileValue

@[expose] public section

set_option maxRecDepth 16384

noncomputable section

namespace Cert.KernelIdeal.Proof

open Cert.KernelIdeal.Gen
open Idealize.ShloMosaic

variable (x : Vec Ideal S512x16384 .bf16) (w : Vec Ideal S512x16384 .fp8e4m3) (s : Vec Ideal S48x128 .f32) (i : grid0.Coords)
  (A W S : ℕ → ℕ → EReal) (R : ℕ)

/-- The scale of one block of the weight. -/
theorem load_scale (nb : ℕ) (hnb : nb < 4) (col : ℕ) (hcol : col < 128) (h0 : 0 < S1x1.numel)
    (hs : ∀ (a : Fin 48) (b : Fin 128), s (ix2 a b) = S a.val b.val) :
    View.ld s (Rect.unit (s := S48x128) (scaleOff i nb col) S1x1.size (scaleOff_inb i nb col hnb hcol)) (Shape.Idx.first h0)
      = S (4 * (i 1).val + nb) col := by
  have hi : (i 1).val < 12 := (i 1).isLt
  refine Eq.trans ?_ (hs ⟨4 * (i 1).val + nb, by omega⟩ ⟨col, hcol⟩)
  show s _ = s _
  congr 1
  funext a
  apply Fin.ext
  have he := congrFun (scaleOff_eq i ⟨nb, hnb⟩ col) a
  fin_cases a
  · simpa [Rect.unit, LoadRect.idx, Rect.toLoadRect, Shape.Idx.first] using he
  · simpa [Rect.unit, LoadRect.idx, Rect.toLoadRect, Shape.Idx.first] using he

/-- Pieces of 128 columns side by side, read at column `c`. -/
theorem sideBySide (j : S512x2048.Idx) : ∀ (fs : List (S512x128.Idx → EReal)) (hs) (c : ℕ) (hc) (G : ℕ → EReal),
    (∀ (k : ℕ) (hk : k < fs.length) (l : Fin 128), fs[k] (ix2 (j 0) l) = G (128 * k + l.val)) →
    concatenateAt S512x2048 1 j (fs.map fun f => (⟨S512x128, f⟩ : (s : Shape) × (s.Idx → EReal))) hs c hc = G c
  | [], hs, c, hc, G, hG => absurd hc (by simp [axisSizes])
  | [f], hs, c, hc, G, hG => by
    have hc' : c < 128 := by simpa [axisSizes] using hc
    refine (concatenateAt_singleton _ _ _ _ _ _).trans ?_
    have := hG 0 (by simp) ⟨c, hc'⟩
    simp only [List.getElem_cons_zero, Nat.mul_zero, Nat.zero_add] at this
    rw [← this]
    congr 1
    funext b
    fin_cases b <;> rfl
  | f :: g :: fs, hs, c, hc, G, hG => by
    refine (concatenateAt_cons _ _ _ _ _ _ _ _).trans ?_
    by_cases h : c < 128
    · refine (dif_pos h).trans ?_
      have := hG 0 (by simp) ⟨c, h⟩
      simp only [List.getElem_cons_zero, Nat.mul_zero, Nat.zero_add] at this
      rw [← this]
      congr 1
      funext b
      fin_cases b <;> rfl
    · refine (dif_neg h).trans ?_
      refine (sideBySide j (g :: fs) _ (c - 128) _ (fun c => G (128 + c)) ?_).trans ?_
      · intro k hk l
        have := hG (k + 1) (by simpa using hk) l
        simp only [List.getElem_cons_succ] at this
        rw [this]
        congr 1
        omega
      · exact congrArg G (by omega)

section Weight

variable (hs : ∀ (a : Fin 48) (b : Fin 128), s (ix2 a b) = S a.val b.val)
  (hw : ∀ (n : Fin 512) (k : Fin 16384), w (ix2 n k) = W (512 * (i 1).val + n.val) k.val)

include hs hw

theorem weightBlock_apply (col : ℕ) (hcol : col < 128) (nb : ℕ) (hnb : nb < 4) (a b : Fin 128) :
    weightBlock w s i col hcol nb hnb (ix2 a b) = Quantise.weight W S (512 * (i 1).val + (128 * nb + a.val)) (128 * col + b.val) := by
  have h : weightBlock w s i col hcol nb hnb (ix2 a b)
      = w (ix2 ⟨128 * nb + a.val, by omega⟩ ⟨128 * col + b.val, by omega⟩)
        * View.ld s (Rect.unit (s := S48x128) (scaleOff i nb col) S1x1.size (scaleOff_inb i nb col hnb hcol)) (Shape.Idx.first (show 0 < S1x1.numel by decide)) := by
    unfold weightBlock
    pointwise []
  rw [h, load_scale s i S nb hnb col hcol _ hs, hw]
  unfold Quantise.weight
  rw [show (512 * (i 1).val + (128 * nb + a.val)) / 128 = 4 * (i 1).val + nb by omega, show (128 * col + b.val) / 128 = col by omega]

theorem weightCol_apply (col : ℕ) (hcol : col < 128) (n : Fin 512) (b : Fin 128) :
    weightCol w s i col hcol (ix2 n b) = Quantise.weight W S (512 * (i 1).val + n.val) (128 * col + b.val) := by
  pointwise [weightCol]
  simp only [weightBlock_apply w s i W S hs hw]
  split_ifs <;> congr 1 <;> omega

omit hs hw in
/-- The sixteen block columns of a chunk, as a list. -/
def weightCols (k : ℕ) (hk : k < 8) : List (S512x128.Idx → EReal) :=
  [weightCol w s i (16 * k + 0) (by omega), weightCol w s i (16 * k + 1) (by omega), weightCol w s i (16 * k + 2) (by omega),
    weightCol w s i (16 * k + 3) (by omega), weightCol w s i (16 * k + 4) (by omega), weightCol w s i (16 * k + 5) (by omega),
    weightCol w s i (16 * k + 6) (by omega), weightCol w s i (16 * k + 7) (by omega), weightCol w s i (16 * k + 8) (by omega),
    weightCol w s i (16 * k + 9) (by omega), weightCol w s i (16 * k + 10) (by omega), weightCol w s i (16 * k + 11) (by omega),
    weightCol w s i (16 * k + 12) (by omega), weightCol w s i (16 * k + 13) (by omega), weightCol w s i (16 * k + 14) (by omega),
    weightCol w s i (16 * k + 15) (by omega)]

omit hs hw in
theorem weightCols_get (k : ℕ) (hk : k < 8) (m : Fin 16) : (weightCols w s i k hk)[m.val]'m.isLt = weightCol w s i (16 * k + m.val) (by omega) := by
  fin_cases m <;> rfl

theorem weightTile_apply (k : ℕ) (hk : k < 8) (n : Fin 512) (q : Fin 2048) :
    weightTile w s i k hk (ix2 n q) = Quantise.weight W S (512 * (i 1).val + n.val) (2048 * k + q.val) := by
  refine (concatenate_apply _ _ _ _ _).trans ?_
  refine sideBySide (ix2 n q) (weightCols w s i k hk) _ q.val _ (fun c => Quantise.weight W S (512 * (i 1).val + n.val) (2048 * k + c)) ?_
  intro m hm l
  have hm' : m < 16 := hm
  refine (congrFun (weightCols_get w s i k hk ⟨m, hm'⟩) _).trans ?_
  refine (weightCol_apply w s i W S hs hw _ _ n l).trans ?_
  congr 1
  simp only
  omega

/-- The product of one chunk is the sum over its 2048 columns. -/
theorem chunkProduct_apply (hx : ∀ (r : Fin 512) (k : Fin 16384), x (ix2 r k) = Quantise.deq A (R + r.val) k.val) (k : ℕ) (hk : k < 8) (r n : Fin 512) :
    chunkProduct x w s i k hk (ix2 r n)
      = ∑ q : Fin 2048, Quantise.deq A (R + r.val) (2048 * k + q.val) * Quantise.weight W S (512 * (i 1).val + n.val) (2048 * k + q.val) := by
  have h : chunkProduct x w s i k hk (ix2 r n) = ∑ q : Fin 2048, x (ix2 r ⟨2048 * k + q.val, by omega⟩) * weightTile w s i k hk (ix2 n q) := by
    unfold chunkProduct
    generalize weightTile w s i k hk = T
    pointwise []
  rw [h]
  simp only [hx, weightTile_apply w s i W S hs hw]

/-- What the first `k + 1` chunks leave in the accumulator. -/
theorem read_accPieces (hx : ∀ (r : Fin 512) (k : Fin 16384), x (ix2 r k) = Quantise.deq A (R + r.val) k.val)
    (M12 : Memref sig .tc .vmem S512x512 .f32) (f : M12.view.ty.Contents (Elt Ideal)) (k : ℕ) (hk : k < 8) (r n : Fin 512) :
    M12.view.read (Elt Ideal) (M12.view.writes (Elt Ideal) f (accPieces M12 x w s i k hk)) (ix2 r n)
      = ∑ q ∈ Finset.range (2048 * (k + 1)), Quantise.deq A (R + r.val) q * Quantise.weight W S (512 * (i 1).val + n.val) q := by
  have whole : ∀ (f : M12.view.ty.Contents (Elt Ideal)) (v : Vec Ideal S512x512 .f32) (L : List (View.Piece (Elt Ideal) S512x512 .f32)),
      M12.view.read (Elt Ideal) (M12.view.writes (Elt Ideal) f (wholeTile v :: L)) (ix2 r n) = v (ix2 r n) := by
    intro f v L
    refine View.read_writes_cons_unit_of_mem M12.view f _ _ _ (ix2 r n) (ix2 r n) rfl ?_
    intro a
    fin_cases a <;> simp
  induction k generalizing f with
  | zero =>
    refine (whole f _ _).trans ?_
    have h : shapeCast S512x512 (chunkProduct x w s i 0 hk) shapeCasts_S512x512_S512x512 (ix2 r n) = chunkProduct x w s i 0 hk (ix2 r n) := by
      generalize chunkProduct x w s i 0 hk = T
      pointwise []
    rw [h, chunkProduct_apply x w s i A W S R hs hw hx, Finset.sum_range]
    simp
  | succ k ih =>
    refine (whole f _ _).trans ?_
    have h : shapeCast S512x512 (addf
        (M12.view.readCov (accPieces M12 x w s i k (by omega)) (Rect.unit (s := S512x512) ![0, 0] S512x512.size inb_S512x512_S512x512_0_0).toLoadRect)
        (chunkProduct x w s i (k + 1) hk)) shapeCasts_S512x512_S512x512 (ix2 r n)
        = M12.view.readCov (accPieces M12 x w s i k (by omega)) (Rect.unit (s := S512x512) ![0, 0] S512x512.size inb_S512x512_S512x512_0_0).toLoadRect (ix2 r n)
          + chunkProduct x w s i (k + 1) hk (ix2 r n) := by
      generalize chunkProduct x w s i (k + 1) hk = T
      generalize M12.view.readCov (accPieces M12 x w s i k (by omega)) (Rect.unit (s := S512x512) ![0, 0] S512x512.size inb_S512x512_S512x512_0_0).toLoadRect = U
      pointwise []
    rw [h, chunkProduct_apply x w s i A W S R hs hw hx, show 2048 * (k + 1 + 1) = 2048 * (k + 1) + 2048 by omega, Finset.sum_range_add, Finset.sum_range (n := 2048)]
    refine congrArg₂ (· + ·) (Eq.trans ?_ (ih M12.view.junk (by omega))) rfl
    show M12.view.read (Elt Ideal) (M12.view.writes (Elt Ideal) M12.view.junk (accPieces M12 x w s i k (by omega))) _ = _
    congr 1
    funext a
    apply Fin.ext
    fin_cases a <;> simp [Rect.unit, LoadRect.idx, Rect.toLoadRect]

/-- The columns of the accumulated tile are the product's. -/
theorem tileCols_apply (hx : ∀ (r : Fin 512) (k : Fin 16384), x (ix2 r k) = Quantise.deq A (R + r.val) k.val)
    (M12 : Memref sig .tc .vmem S512x512 .f32) (nb : ℕ) (h : nb < 4) (r : Fin 512) (l : Fin 128) :
    tileCols M12 (accPieces M12 x w s i 7 (by omega)) nb h (ix2 r l) = Quantise.prod A W S (R + r.val) (128 * (4 * (i 1).val + nb) + l.val) := by
  refine Eq.trans ?_ ((read_accPieces x w s i A W S R hs hw hx M12 M12.view.junk 7 (by omega) r ⟨128 * nb + l.val, by omega⟩).trans ?_)
  · show M12.view.read (Elt Ideal) (M12.view.writes (Elt Ideal) M12.view.junk (accPieces M12 x w s i 7 (by omega))) _ = _
    congr 1
    funext a
    apply Fin.ext
    fin_cases a <;> simp [Rect.unit, LoadRect.idx, Rect.toLoadRect]
  · unfold Quantise.prod
    rw [Finset.sum_range]
    refine Finset.sum_congr rfl fun k _ => ?_
    rw [show 512 * (i 1).val + (128 * nb + l.val) = 128 * (4 * (i 1).val + nb) + l.val by omega]

end Weight

end Cert.KernelIdeal.Proof
-- ==== Proof.RequantValue.lean ====
/-
  What the tile's codes and scales leave in their buffers, over the reals, by rows and by columns.
-/
module

public import proofs.«01_k».proof.Proof.TileValue

@[expose] public section

set_option maxRecDepth 16384

noncomputable section

namespace Cert.KernelIdeal.Proof

open Cert.KernelIdeal.Gen
open Idealize.ShloMosaic

variable (v : (nb : ℕ) → nb < 4 → FVec Ideal S512x128 .f32) (i : grid0.Coords) (B : ℕ → ℕ → EReal) (b : ℕ)

section Values

/- The tile is rows `512 b …`, columns `512 (i 1) …` of `B`. -/
variable (hv : ∀ (nb : ℕ) (h : nb < 4) (r : Fin 512) (l : Fin 128), v nb h (ix2 r l) = B (512 * b + r.val) (128 * (4 * (i 1).val + nb) + l.val))

include hv

theorem read_rowCodePieces {κ : Kind} {sp : Space} (u : View sig κ sp S512x512 .fp8e4m3) (f : u.ty.Contents (Elt Ideal)) (n : ℕ) (h : n ≤ 4)
    (r k : Fin 512) (hk : k.val < 128 * n) :
    u.read (Elt Ideal) (u.writes (Elt Ideal) f (rowCodePieces v n h)) (ix2 r k) = Quantise.rowCode B (512 * b + r.val) (512 * (i 1).val + k.val) := by
  induction n with
  | zero => omega
  | succ n ih =>
    by_cases hn : k.val < 128 * n
    · refine (View.read_writes_cons_unit_of_not_mem u f _ _ _ (ix2 r k) rfl 1 (Or.inl ?_)).trans (ih (by omega) hn)
      simpa using hn
    · refine (View.read_writes_cons_unit_of_mem u f _ _ _ (ix2 r k) (ix2 r ⟨k.val - 128 * n, by omega⟩) rfl ?_).trans ?_
      · intro a
        fin_cases a <;> simp <;> omega
      · rw [rowCodes_apply _ B (512 * b) (4 * (i 1).val + n) (hv n (by omega))]
        congr 1
        simp only
        omega

theorem rowsOf_apply (nb : ℕ) (hnb : nb < 4) (mb : ℕ) (hmb : mb < 4) (k l : Fin 128) :
    rowsOf (v nb hnb) mb hmb (ix2 k l) = B (128 * (4 * b + mb) + k.val) (128 * (4 * (i 1).val + nb) + l.val) := by
  have h : rowsOf (v nb hnb) mb hmb (ix2 k l) = v nb hnb (ix2 ⟨128 * mb + k.val, by omega⟩ l) := by
    unfold rowsOf
    generalize v nb hnb = T
    pointwise []
  rw [h, hv]
  congr 1
  simp only
  omega

theorem read_colCodePieces {κ : Kind} {sp : Space} (u : View sig κ sp S512x512 .fp8e4m3) (f : u.ty.Contents (Elt Ideal)) (n : ℕ) (h : n ≤ 16)
    (r k : Fin 512) (hk : r.val / 128 + 4 * (k.val / 128) < n) :
    u.read (Elt Ideal) (u.writes (Elt Ideal) f (colCodePieces v n h)) (ix2 r k) = Quantise.colCode B (512 * b + r.val) (512 * (i 1).val + k.val) := by
  induction n with
  | zero => omega
  | succ n ih =>
    by_cases hn : r.val / 128 + 4 * (k.val / 128) < n
    · refine Eq.trans ?_ (ih (by omega) hn)
      by_cases hr : r.val / 128 = n % 4
      · refine View.read_writes_cons_unit_of_not_mem u f _ _ _ (ix2 r k) rfl 1 ?_
        simp
        omega
      · refine View.read_writes_cons_unit_of_not_mem u f _ _ _ (ix2 r k) rfl 0 ?_
        simp
        omega
    · refine (View.read_writes_cons_unit_of_mem u f _ _ _ (ix2 r k) (ix2 ⟨r.val % 128, by omega⟩ ⟨k.val % 128, by omega⟩) rfl ?_).trans ?_
      · intro a
        fin_cases a <;> simp <;> omega
      · rw [colCodes_apply _ B (4 * b + n % 4) (128 * (4 * (i 1).val + n / 4)) (rowsOf_apply v i B b hv (n / 4) (by omega) (n % 4) (by omega))]
        have h1 : 128 * (4 * b + n % 4) + r.val % 128 = 512 * b + r.val := by omega
        have h2 : 128 * (4 * (i 1).val + n / 4) + k.val % 128 = 512 * (i 1).val + k.val := by omega
        simp only [h1, h2]

theorem read_colScalePieces {κ : Kind} {sp : Space} (u : View sig κ sp S1x4x512 .f32) (f : u.ty.Contents (Elt Ideal)) (n : ℕ) (h : n ≤ 16)
    (a : Fin 1) (m : Fin 4) (k : Fin 512) (hk : m.val + 4 * (k.val / 128) < n) :
    u.read (Elt Ideal) (u.writes (Elt Ideal) f (colScalePieces v n h)) (ix3 a m k) = Quantise.colScale B (4 * b + m.val) (512 * (i 1).val + k.val) := by
  induction n with
  | zero => omega
  | succ n ih =>
    by_cases hn : m.val + 4 * (k.val / 128) < n
    · refine Eq.trans ?_ (ih (by omega) hn)
      by_cases hr : m.val = n % 4
      · refine View.read_writes_cons_unit_of_not_mem u f _ _ _ (ix3 a m k) rfl 2 ?_
        simp
        omega
      · refine View.read_writes_cons_unit_of_not_mem u f _ _ _ (ix3 a m k) rfl 1 ?_
        simp
        omega
    · refine (View.read_writes_cons_unit_of_mem u f _ _ _ (ix3 a m k) (ix3 0 0 ⟨k.val % 128, by omega⟩) rfl ?_).trans ?_
      · intro a
        fin_cases a <;> simp <;> omega
      · have hc : shapeCast S1x1x128 (colScale (rowsOf (v (n / 4) (by omega)) (n % 4) (by omega))) shapeCasts_S1x128_S1x1x128
            (ix3 0 0 ⟨k.val % 128, by omega⟩) = colScale (rowsOf (v (n / 4) (by omega)) (n % 4) (by omega)) (ix2 0 ⟨k.val % 128, by omega⟩) := by
          generalize colScale (rowsOf (v (n / 4) (by omega)) (n % 4) (by omega)) = T
          pointwise []
        refine hc.trans ?_
        rw [colScale_apply _ B (4 * b + n % 4) (128 * (4 * (i 1).val + n / 4)) (rowsOf_apply v i B b hv (n / 4) (by omega) (n % 4) (by omega))]
        have h1 : 4 * b + n % 4 = 4 * b + m.val := by omega
        have h2 : 128 * (4 * (i 1).val + n / 4) + k.val % 128 = 512 * (i 1).val + k.val := by omega
        simp only [h1, h2]

end Values

/-- The lane of block column `n` of the tile. -/
theorem tileLane_eq (n : ℕ) (hn : n < 4) (g : Fin 48) :
    IntOp.cmpi .eq (BitVec.ofNat 32 g.val) (Scalar.addi (Scalar.muli (BitVec.ofNat 32 (i 1).val) 4#32) (BitVec.ofNat 32 n))
      = BitVec.ofBool (decide (g.val = 4 * (i 1).val + n)) := by
  have : ∀ (a : Fin 12) (n : Fin 4) (g : Fin 48), IntOp.cmpi .eq (BitVec.ofNat 32 g.val) (Scalar.addi (Scalar.muli (BitVec.ofNat 32 a.val) 4#32) (BitVec.ofNat 32 n.val))
      = BitVec.ofBool (decide (g.val = 4 * a.val + n.val)) := by decide +kernel
  exact this (i 1) ⟨n, hn⟩ g

/-- The scales by rows in their lanes; the other lanes keep their contents. -/
theorem rowScales_apply
    (hv : ∀ (nb : ℕ) (h : nb < 4) (r : Fin 512) (l : Fin 128), v nb h (ix2 r l) = B (512 * b + r.val) (128 * (4 * (i 1).val + nb) + l.val))
    (z : FVec Ideal S512x48 .f32) (n : ℕ) (h : n ≤ 4) (r : Fin 512) (g : Fin 48) :
    rowScales v i z n h (ix2 r g)
      = if 4 * (i 1).val ≤ g.val ∧ g.val < 4 * (i 1).val + n then Quantise.rowScale B (512 * b + r.val) g.val else z (ix2 r g) := by
  induction n with
  | zero => rw [if_neg (by omega)]; rfl
  | succ n ih =>
    have step : rowScales v i z (n + 1) h (ix2 r g)
        = Scalar.select (IntOp.cmpi .eq (BitVec.ofNat 32 g.val) (Scalar.addi (Scalar.muli (BitVec.ofNat 32 (i 1).val) 4#32) (BitVec.ofNat 32 n)))
            (rowScale (v n (by omega)) (ix2 r ⟨g.val, by omega⟩)) (rowScales v i z n (by omega) (ix2 r g)) := by
      rw [rowScales]
      generalize rowScale (v n (by omega)) = T
      pointwise []
    rw [step, tileLane_eq i n h g, rowScale_apply _ B (512 * b) (4 * (i 1).val + n) (hv n (by omega)), ih]
    by_cases hg : g.val = 4 * (i 1).val + n
    · rw [if_pos (show 4 * (i 1).val ≤ g.val ∧ g.val < 4 * (i 1).val + (n + 1) by omega), hg]
      simp [Scalar.select]
    · have hiff : (4 * (i 1).val ≤ g.val ∧ g.val < 4 * (i 1).val + (n + 1)) ↔ (4 * (i 1).val ≤ g.val ∧ g.val < 4 * (i 1).val + n) := by omega
      simp only [hiff]
      simp [Scalar.select, hg]

end Cert.KernelIdeal.Proof
-- ==== Proof.Keeps.lean ====
/-
  Both runs of the body keep the track.
-/
module

public import proofs.«01_k».proof.Proof.Track
public import proofs.«01_k».proof.Proof.ProductValue
public import proofs.«01_k».proof.Proof.RequantValue

@[expose] public section

set_option maxRecDepth 16384

noncomputable section

namespace Cert.KernelIdeal.Proof

open Cert.KernelIdeal.Gen
open Idealize.ShloMosaic
open Idealize.ShloMosaic.TcCoe

variable (m : (ℓ : Loc nD τ sig) → Buf (Elt Ideal) ℓ)

/-- The first branch is taken at the first twelve points. -/
theorem first_lt (t : Fin cfg0.N) (hc2 : ¬ k0_cond2 (grid0.coords t) = 1#1) : t.val < 12 := by
  obtain ⟨h, -, -⟩ | ⟨-, -, h⟩ := cond_cases (grid0.coords t)
  · rw [coords0] at h; omega
  · exact absurd h hc2

/-- The second at the others. -/
theorem next_ge (t : Fin cfg0.N) (hc1 : ¬ k0_cond1 (grid0.coords t) = 1#1) : 12 ≤ t.val := by
  obtain ⟨-, h, -⟩ | ⟨h, -, -⟩ := cond_cases (grid0.coords t)
  · exact absurd h hc1
  · rw [coords0] at h; omega

/-- A point of the first row block keeps the track. -/
theorem keepsFirst (T : Track Ideal) (hT : ∀ c, T = track m c) : KeepsFirst m T := by
  intro c 𝒱₀ t hc1 hc2 M2 h2 M3 h3 M4 h4 M5 h5 M6 h6 M7 h7 M8 h8 M9 h9 M10 h10 f2 f3 f4 f5 f6 f7 f8 f9 f10 D f12 H
  rw [runFirst_val]
  dsimp only
  obtain rfl := hT c
  have hlt := first_lt t hc2
  have hx : ∀ (r : Fin 512) (k : Fin 2048), M3.view.read (Elt Ideal) f3 (ix2 r k)
      = arrA m c (512 * min (t.val / 12) 23 + r.val) (2048 * chunk (grid0.coords t) + k.val) := fun r k =>
    (congrFun H.y3 _).trans (iblk1 m c t r k)
  have hD : DeqKnown m c t.val (mDeq.view.read (Elt Ideal) D) := by
    have := H.deq
    rw [track_deq] at this
    exact this
  refine ⟨fun h => absurd h (by omega), fun h => absurd h (by omega), fun h => absurd h (by omega), fun h => absurd h (by omega), ?_, ?_, ?_⟩
  · exact r7_step m c t _ hx M9.view M9.view.junk
  · exact r8_step m c t M3 M10 f3 f10 hx H.y10 M10.view.junk
  · rw [track_deq]
    exact deqKnown_step m c t (M3.view.read (Elt Ideal) f3) hx mDeq.view D hD

/-- The rows the product reads are row block `i - 1`, dequantised. -/
theorem deqRead_apply (c : Dev nD) (t : Fin cfg0.N) (ht : 12 ≤ t.val) (hc2 : k0_cond2 (grid0.coords t) = 1#1) (M3 : Memref sig .tc .vmem S512x2048 .bf16)
    (M11 : Memref sig .tc .vmem S2x512x16384 .bf16) (f3 : Bf (F := Ideal) c M3) (f11 : Bf (F := Ideal) c M11)
    (hD : DeqKnown m c t.val (M11.view.read (Elt Ideal) f11)) (r : Fin 512) (k : Fin 16384) :
    deqRead c (grid0.coords t) hc2 M3 M11 f3 f11 (ix2 r k) = Quantise.deq (arrA m c) (512 * (t.val / 12 - 1) + r.val) k.val := by
  have h0 := coords0 t
  have h : deqRead c (grid0.coords t) hc2 M3 M11 f3 f11 (ix2 r k)
      = M11.view.read (Elt Ideal) (M11.view.writes (Elt Ideal) f11 (dyDeqPieces (M3.view.read (Elt Ideal) f3) (grid0.coords t) 16 (le_refl _)))
        (ix3 ⟨1 - t.val / 12 % 2, by omega⟩ r k) := by
    have hc : S1x512x16384.ShapeCasts S512x16384 := by decide
    unfold deqRead
    rw [runNext_deq]
    generalize M11.view.writes (Elt Ideal) f11 _ = g
    rw [Memref.read_squeeze_slice (hc := hc)]
    have e : ∀ x : S1x512x16384.Idx → EReal, shapeCast S512x16384 x hc (ix2 r k) = x (ix3 0 r k) := by
      intro x
      pointwise []
    refine (e _).trans ?_
    show M11.view.read (Elt Ideal) g _ = _
    congr 1
    funext a
    apply Fin.ext
    have ho := congrFun (off23_eq (grid0.coords t)) a
    rw [h0] at ho
    fin_cases a <;> simp [Rect.unit, LoadRect.idx, Rect.toLoadRect] at ho ⊢ <;> omega
  refine h.trans ((read_dyDeqPieces_miss _ _ _ _ _ _ _ _ _ (Or.inl ?_)).trans (hD.2 ht (lt_300 t) _ r k rfl))
  rw [h0]
  simp only
  omega

/-- What the product's row scales held before the point. -/
theorem inherit4 (c : Dev nD) (t : Fin cfg0.N) (ht : 12 ≤ t.val) (X : S512x48.Idx → EReal) (h : (rdat m (track m c) c).Finds 4 t X) :
    ∀ (r : Fin 512) (g : Fin 48), g.val < 4 * (t.val % 12) →
      X (ix2 r g) = Quantise.rowScale (arrP m c) (512 * (t.val / 12 - 1) + r.val) g.val := by
  intro r g hg
  obtain hf | ⟨Y, -, hY⟩ := ((rdat m (track m c) c).finds_of_pos (w := 4) (by rfl) (by omega) X).1 h
  · have := flush4 _ hf
    simp only at this
    omega
  · refine (hY ?_ r g ?_).trans ?_
    · simp only; omega
    · simp only; omega
    · simp only
      rw [show (t.val - 1) / 12 = t.val / 12 by omega]

/-- Every later point keeps the track. -/
theorem keepsNext (T : Track Ideal) (hT : ∀ c, T = track m c) : KeepsNext m T := by
  intro c 𝒱₀ t hc1 hc2 M2 h2 M3 h3 M4 h4 M5 h5 M6 h6 M7 h7 M8 h8 M9 h9 M10 h10 f2 f3 f4 f5 f6 f7 f8 f9 f10 D f12 H
  rw [runNext_val]
  dsimp only
  obtain rfl := hT c
  have ht := next_ge t hc1
  have h1 := coords1 t
  have hx : ∀ (r : Fin 512) (k : Fin 2048), M3.view.read (Elt Ideal) f3 (ix2 r k)
      = arrA m c (512 * min (t.val / 12) 23 + r.val) (2048 * chunk (grid0.coords t) + k.val) := fun r k =>
    (congrFun H.y3 _).trans (iblk1 m c t r k)
  have hs : ∀ (a : Fin 48) (b : Fin 128), M2.view.read (Elt Ideal) f2 (ix2 a b) = arrS m c a.val b.val := fun a b =>
    (congrFun H.y2 _).trans (iblk0 m c t a b)
  have hw : ∀ (n : Fin 512) (k : Fin 16384), M4.view.read (Elt Ideal) f4 (ix2 n k) = arrW m c (512 * (grid0.coords t 1).val + n.val) k.val := fun n k => by
    rw [h1]
    exact (congrFun H.y4 _).trans (iblk2 m c t ht n k)
  have hD : DeqKnown m c t.val (mDeq.view.read (Elt Ideal) D) := by
    have := H.deq
    rw [track_deq] at this
    exact this
  have hd := deqRead_apply m c t ht hc2 M3 mDeq f3 D hD
  have hv : ∀ (nb : ℕ) (h : nb < 4) (r : Fin 512) (l : Fin 128), accCols c (grid0.coords t) hc2 M2 M3 M4 mDeq mAcc f2 f3 f4 D nb h (ix2 r l)
      = arrP m c (512 * (t.val / 12 - 1) + r.val) (128 * (4 * (grid0.coords t 1).val + nb) + l.val) := by
    intro nb h r l
    unfold accCols
    rw [runNext_acc]
    exact tileCols_apply _ _ _ _ _ _ _ _ hs hw hd mAcc nb h r l
  generalize accCols c (grid0.coords t) hc2 M2 M3 M4 mDeq mAcc f2 f3 f4 D = v at hv
  refine ⟨fun _ r n => ?_, fun _ r g hg => ?_, fun _ r n => ?_, fun _ a h n => ?_, ?_, ?_, ?_⟩
  · rw [← h1]
    exact read_rowCodePieces v _ _ _ hv M5.view M5.view.junk 4 (le_refl _) r n (by omega)
  · refine (View.read_writes_cons_unit_of_mem M6.view _ _ _ _ (ix2 r g) (ix2 r g) rfl ?_).trans ?_
    · intro a; fin_cases a <;> simp
    · refine (rowScales_apply v _ _ _ hv _ 4 (le_refl _) r g).trans ?_
      rw [h1]
      by_cases hg' : 4 * (t.val % 12) ≤ g.val
      · rw [if_pos ⟨hg', by omega⟩]
      · rw [if_neg (by omega)]
        refine Eq.trans ?_ (inherit4 m c t ht _ H.y6 r g (by omega))
        generalize M6.view.read (Elt Ideal) f6 = z
        pointwise []
  · rw [← h1]
    exact read_colCodePieces v _ _ _ hv M7.view M7.view.junk 16 (le_refl _) r n (by omega)
  · rw [← h1]
    exact read_colScalePieces v _ _ _ hv M8.view M8.view.junk 16 (le_refl _) a h n (by omega)
  · exact r7_step m c t _ hx M9.view M9.view.junk
  · exact r8_step m c t M3 M10 f3 f10 hx H.y10 M10.view.junk
  · rw [track_deq]
    exact deqKnown_step m c t (M3.view.read (Elt Ideal) f3) hx mDeq.view D hD

end Cert.KernelIdeal.Proof
-- ==== Proof.Arrays.lean ====
/-
  The result arrays after a run of the kernel, over the reals: each is the quantiser's function at its index.
-/
module

public import proofs.«01_k».proof.Proof.Track
public import Idealize.ShloMosaic.Lib.Pipeline.ArrRel

@[expose] public section

set_option maxRecDepth 16384

noncomputable section

namespace Cert.KernelIdeal.Proof

open Cert.KernelIdeal.Gen
open Idealize.ShloMosaic
open Idealize.ShloMosaic.TcCoe

variable (m : (ℓ : Loc nD τ sig) → Buf (Elt Ideal) ℓ) (c : Dev nD)

/-- The result's codes by rows, -/
def outRowCode : S12288x6144.Idx → EReal := fun j => Quantise.rowCode (arrP m c) (j 0).val (j 1).val
/-- their scales, -/
def outRowScale : S12288x48.Idx → EReal := fun j => Quantise.rowScale (arrP m c) (j 0).val (j 1).val
/-- the result's codes by columns, -/
def outColCode : S12288x6144.Idx → EReal := fun j => Quantise.colCode (arrP m c) (j 0).val (j 1).val
/-- their scales, -/
def outColScale : S24x4x6144.Idx → EReal := fun j => Quantise.colScale (arrP m c) (4 * (j 0).val + (j 1).val) (j 2).val
/-- the gradient's codes, -/
def outDyCode : S12288x16384.Idx → EReal := fun j => Quantise.rowCode (arrA m c) (j 0).val (j 1).val
/-- and their scales. -/
def outDyScale : S12288x128.Idx → EReal := fun j => Quantise.rowScale (arrA m c) (j 0).val (j 1).val

variable (after : (w : Fin cfg0.W) → Fin cfg0.N → (cfg0.win w).block.Idx → Elt Ideal (cfg0.win w).elt)
  (hL : ∀ (w : Fin cfg0.W) (u : Fin cfg0.N), (cfg0.win w).flush u = true → (rdat m (track m c) c).Leaves w u (after w u))

include hL

/-- After the last point the array of the result's codes by rows is `outRowCode`. -/
theorem final3 : ((rdat m (track m c) c).withAfter after).arrAt 3 cfg0.N = outRowCode m c := by
  refine Pipeline.Dat.arrAt_eq_of_covers _ 3 _ (by decide +kernel) fun t hf y => ?_
  obtain ⟨Y, -, hY⟩ := hL 3 t hf
  have ht := flush3 t hf
  have h : ∀ y : S512x512.Idx, (after 3 t : S512x512.Idx → EReal) y = _ := fun y =>
    (congrArg (after 3 t) (eq_ix2 y)).trans (hY ht (y 0) (y 1))
  blk_simp
  refine (h y).trans ?_
  unfold outRowCode
  blk_simp [index3 t ht]
  congr 1 <;> simp <;> omega

/-- The array of its row scales is `outRowScale`. -/
theorem final4 : ((rdat m (track m c) c).withAfter after).arrAt 4 cfg0.N = outRowScale m c := by
  refine Pipeline.Dat.arrAt_eq_of_covers _ 4 _ (by decide +kernel) fun t hf y => ?_
  obtain ⟨Y, -, hY⟩ := hL 4 t hf
  have ht := flush4 t hf
  have lanes (y : S512x48.Idx) : (y 1).val < 4 * (t.val % 12 + 1) := by have : (y 1).val < 48 := (y 1).isLt; omega
  have h : ∀ y : S512x48.Idx, (after 4 t : S512x48.Idx → EReal) y = _ := fun y =>
    (congrArg (after 4 t) (eq_ix2 y)).trans (hY ht.1 (y 0) (y 1) (lanes y))
  blk_simp
  refine (h y).trans ?_
  unfold outRowScale
  blk_simp [index4 t ht.1]
  congr 1 <;> simp <;> omega

/-- The array of its codes by columns is `outColCode`. -/
theorem final5 : ((rdat m (track m c) c).withAfter after).arrAt 5 cfg0.N = outColCode m c := by
  refine Pipeline.Dat.arrAt_eq_of_covers _ 5 _ (by decide +kernel) fun t hf y => ?_
  obtain ⟨Y, -, hY⟩ := hL 5 t hf
  have ht := flush5 t hf
  have h : ∀ y : S512x512.Idx, (after 5 t : S512x512.Idx → EReal) y = _ := fun y =>
    (congrArg (after 5 t) (eq_ix2 y)).trans (hY ht (y 0) (y 1))
  blk_simp
  refine (h y).trans ?_
  unfold outColCode
  blk_simp [index5 t ht]
  congr 1 <;> simp <;> omega

/-- The array of its column scales is `outColScale`. -/
theorem final6 : ((rdat m (track m c) c).withAfter after).arrAt 6 cfg0.N = outColScale m c := by
  refine Pipeline.Dat.arrAt_eq_of_covers _ 6 _ (by decide +kernel) fun t hf y => ?_
  obtain ⟨Y, -, hY⟩ := hL 6 t hf
  have ht := flush6 t hf
  have h : ∀ y : S1x4x512.Idx, (after 6 t : S1x4x512.Idx → EReal) y = _ := fun y =>
    (congrArg (after 6 t) (eq_ix3 y)).trans (hY ht (y 0) (y 1) (y 2))
  blk_simp
  refine (h y).trans ?_
  unfold outColScale
  blk_simp [index6 t ht]
  congr 1 <;> simp <;> omega

/-- The array of the gradient's codes is `outDyCode`. -/
theorem final7 : ((rdat m (track m c) c).withAfter after).arrAt 7 cfg0.N = outDyCode m c := by
  refine Pipeline.Dat.arrAt_eq_of_covers _ 7 _ (by decide +kernel) fun t hf y => ?_
  obtain ⟨Y, -, hY⟩ := hL 7 t hf
  have h : ∀ y : S512x2048.Idx, (after 7 t : S512x2048.Idx → EReal) y = _ := fun y =>
    (congrArg (after 7 t) (eq_ix2 y)).trans (hY (y 0) (y 1))
  blk_simp
  refine (h y).trans ?_
  unfold outDyCode
  blk_simp [index7 t]
  congr 1 <;> simp <;> omega

/-- The array of the gradient's scales is `outDyScale`. -/
theorem final8 : ((rdat m (track m c) c).withAfter after).arrAt 8 cfg0.N = outDyScale m c := by
  refine Pipeline.Dat.arrAt_eq_of_covers _ 8 _ (by decide +kernel) fun t hf y => ?_
  obtain ⟨Y, -, hY⟩ := hL 8 t hf
  have ht := flush8 t hf
  have lanes (y : S512x128.Idx) : (y 1).val < 16 * (chunk (grid0.coords t) + 1) := by
    have : (y 1).val < 128 := (y 1).isLt
    have := chunk_eq t
    split_ifs at this <;> omega
  have h : ∀ y : S512x128.Idx, (after 8 t : S512x128.Idx → EReal) y = _ := fun y =>
    (congrArg (after 8 t) (eq_ix2 y)).trans (hY (y 0) (y 1) (lanes y))
  blk_simp
  refine (h y).trans ?_
  unfold outDyScale
  blk_simp [index8 t]
  congr 1 <;> simp <;> omega

end Cert.KernelIdeal.Proof
-- ==== Proof.KernelResult.lean ====
/-
  The run of the kernel over the reals: every result array holds the quantiser's function, and the arguments are unchanged.
-/
module

public import proofs.«01_k».proof.Proof.Run
public import proofs.«01_k».proof.Proof.Keeps
public import proofs.«01_k».proof.Proof.Arrays

@[expose] public section

set_option maxRecDepth 16384

noncomputable section

namespace Cert.KernelIdeal.Proof

open Cert.KernelIdeal.Gen
open Idealize.ShloMosaic
open Idealize.ShloMosaic.Pipeline (RDat)
open Idealize.ShloMosaic.TcCoe Idealize.SL.Sem

variable (m : (ℓ : Loc nD τ sig) → Buf (Elt Ideal) ℓ) (ρ : Dev nD → PrngReg)

/-- There is one device. -/
theorem one_device (c : Dev nD) : track m 0 = track m c := by
  have h : c = 0 := Fin.ext (by have : c.val < 1 := c.isLt; simpa using this)
  rw [h]

/-- What the kernel computes. -/
theorem result : θ_run defs (onTc (τ := τ) (main (F := Ideal))) ⟨m, fun _ => 0, ρ⟩ (fun r => ∀ c : Dev nD,
    r.2.mem ((c.tc : Thread nD τ).loc main_v1_0) = outRowCode m c
      ∧ r.2.mem ((c.tc : Thread nD τ).loc main_v1_1) = outRowScale m c
      ∧ r.2.mem ((c.tc : Thread nD τ).loc main_v1_2) = outColCode m c
      ∧ r.2.mem ((c.tc : Thread nD τ).loc main_v1_3) = outColScale m c
      ∧ r.2.mem ((c.tc : Thread nD τ).loc main_v1_4) = outDyCode m c
      ∧ r.2.mem ((c.tc : Thread nD τ).loc main_v1_5) = outDyScale m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_)
    (run m ρ (track m 0) (keepsFirst m _ (one_device m)) (keepsNext m _ (one_device m)) (fun D => ?_))
  · obtain ⟨after, hL, hA⟩ := RDat.FramePost.exists_exact h.1 c
    rw [one_device m c] at hL hA
    exact ⟨(hA 3).trans (final3 m c after hL), (hA 4).trans (final4 m c after hL), (hA 5).trans (final5 m c after hL),
      (hA 6).trans (final6 m c after hL), (hA 7).trans (final7 m c after hL), (hA 8).trans (final8 m c after hL),
      args_of_post m _ r h.1 c⟩
  · rw [show (track m 0).deq 0 D = DeqKnown m 0 0 (mDeq.view.read (Elt Ideal) D) from rfl]
    exact ⟨fun _ _ _ _ _ hk => absurd hk (by simp), fun h => absurd h (by decide)⟩

/-- The gradient as the kernel finds it: its first two axes flattened. -/
theorem gradient (c : Dev nD) : (V m c main_v0 : S12288x16384.Idx → EReal)
    = shapeCast S12288x16384 (m ((c.tc : Thread nD τ).loc main_arg0) : S6x2048x16384.Idx → EReal) shapeCasts_S6x2048x16384_S12288x16384 := by
  rfl

end Cert.KernelIdeal.Proof
-- ==== Proof.RefValue.lean ====
/-
  The reference's arrays over the reals, as the quantiser's functions at an index.
-/
module

public import proofs.«01_k».proof.Proof.Gen.ReferenceIdeal.Skeleton
public import proofs.«01_k».proof.Proof.Spec
public import Idealize.ShloMosaic.Lib.Pointwise

@[expose] public section

set_option maxRecDepth 16384

noncomputable section

namespace Cert.ReferenceIdeal.Proof

open Cert.ReferenceIdeal.Gen
open Idealize.ShloMosaic

/-! ## The quantiser, for an array of greatest magnitudes of any shape -/

section Any

variable {s : Shape}

/-- The ratio of the greatest magnitudes. -/
abbrev ratios (d : FVec Ideal s .f32) : FVec Ideal s .f32 := mulf d (broadcast s (Scalar.ofBits .f32 0x3B124925#32))

/-- The ratios at an index. -/
theorem ratios_apply (d : FVec Ideal s .f32) (j : s.Idx) : ratios d j = Quantise.ratio (d j) := rfl

/-- The exponents of an array of ratios. -/
def expos (x : FVec Ideal s .f32) : FVec Ideal s .f32 :=
  select (cmpf .olt x (broadcast s (Scalar.ofBits .f32 0x00800000#32))) (broadcast s (Scalar.ofBits .f32 0x00000000#32))
    (minimumf (addf (floor (divf (log x) (log (broadcast s (Scalar.ofBits .f32 0x40000000#32))))) (broadcast s (Scalar.ofBits .f32 0x3F800000#32)))
      (broadcast s (Scalar.ofBits .f32 0x42FC0000#32)))

/-- The exponents at an index are the quantiser's. -/
theorem expos_apply (x : FVec Ideal s .f32) (j : s.Idx) : expos x j = Quantise.expo (x j) := by
  have h : expos x j = Scalar.select (FloatOps.cmpf (F := Ideal) (φ := .f32) .olt (x j) (Ideal.ofBits .f32 0x00800000#32)) (Ideal.ofBits .f32 0x00000000#32)
      (min (Ideal.liftRound Int.floor (Ideal.div (Ideal.log (x j)) (Ideal.log (Ideal.ofBits .f32 0x40000000#32))) + Ideal.ofBits .f32 0x3F800000#32)
        (Ideal.ofBits .f32 0x42FC0000#32)) := rfl
  rw [h]
  unfold Quantise.expo Scalar.select
  by_cases hx : x j < Ideal.ofBits .f32 0x00800000#32 <;> simp [hx, FloatOps.cmpf, Ideal.cmp, Ideal.ofBits_zero]

/-- The codes of `v` under the exponents `e`. -/
def codes (v e : FVec Ideal s .f32) : FVec Ideal s .f32 :=
  minimumf (broadcast s (Scalar.ofBits .f32 0x43E00000#32)) (maximumf (broadcast s (Scalar.ofBits .f32 0xC3E00000#32)) (mulf v e))

/-- The codes at an index. -/
theorem codes_apply (v e : FVec Ideal s .f32) (j : s.Idx) :
    codes v e j = min (Ideal.ofBits .f32 0x43E00000#32) (max (Ideal.ofBits .f32 0xC3E00000#32) (v j * e j)) := rfl

/-- A power of two at an index. -/
theorem exp2_apply (e : FVec Ideal s .f32) (j : s.Idx) : exp2 e j = Ideal.exp2 (e j) := rfl

/-- The scales' reciprocals. -/
abbrev inverses (e : FVec Ideal s .f32) : FVec Ideal s .f32 := exp2 (subf (broadcast s (Scalar.ofBits .f32 0x00000000#32)) e)

/-- The scales' reciprocals at an index. -/
theorem inverses_apply (e : FVec Ideal s .f32) (j : s.Idx) : inverses e j = Ideal.exp2 (0 - e j) := by
  have h : inverses e j = Ideal.exp2 (Ideal.ofBits .f32 0x00000000#32 - e j) := rfl
  rw [h]
  simp [Ideal.ofBits_zero]

/-- Over the reals a widening cast changes nothing, -/
theorem widen_eq (x : FVec Ideal s .fp8e4m3) : (extf .bf16 x bitsLt_fp8e4m3_bf16 : FVec Ideal s .bf16) = x := rfl
/-- nor does a narrowing one. -/
theorem narrow_eq (x : FVec Ideal s .f32) : (truncf .bf16 x bitsLt_bf16_f32 : FVec Ideal s .bf16) = x := rfl

end Any

/-! ## The gradient -/

section Dy

variable (P0 : Vec Ideal S12288x16384 .bf16) (A : ℕ → ℕ → EReal) (hA : ∀ (r : Fin 12288) (k : Fin 16384), P0 (ix2 r k) = A r.val k.val)

include hA

/-- The gradient in groups of 128 columns, at an index. -/
theorem groups_apply (r : Fin 12288) (g l : Fin 128) : k0_pay1 P0 (ix3 r g l) = A r.val (128 * g.val + l.val) := by
  have h : k0_pay1 P0 (ix3 r g l) = P0 (ix2 r ⟨g.val * 128 + l.val, by omega⟩) := by
    pointwise [k0_pay1]
  rw [h, hA]
  show A r.val (g.val * 128 + l.val) = _
  rw [Nat.mul_comm]

omit hA in
/-- The greatest magnitude of each group, at an index. -/
theorem dyMax_apply (T : FVec Ideal S12288x128x128 .f32) (r : Fin 12288) (g : Fin 128) (a : Fin 1) (f : ℕ → EReal) (hf : ∀ l : Fin 128, T (ix3 r g l) = f l.val) :
    shapeCast S12288x128x1 (multiReduction .maximumf [2] S12288x128 (absf T) 0xFF800000#32
      reduces_S12288x128x128_S12288x128 (.inl rfl) rfl) shapeCasts_S12288x128_S12288x128x1 (ix3 r g a) = Quantise.amax f := by
  pointwise [Quantise.amax]
  simp only [hf]
  rfl

/-- The exponent of each group. -/
theorem dyExpo_apply (r : Fin 12288) (g : Fin 128) (a : Fin 1) : k0_pay2 P0 (ix3 r g a) = Quantise.expo (Quantise.ratio (Quantise.rowMax A r.val g.val)) := by
  have e : k0_pay2 P0 = expos (ratios (shapeCast S12288x128x1 (multiReduction .maximumf [2] S12288x128 (absf (k0_pay1 P0)) 0xFF800000#32
    reduces_S12288x128x128_S12288x128 (.inl rfl) rfl) shapeCasts_S12288x128_S12288x128x1)) := rfl
  rw [e, expos_apply, ratios_apply, dyMax_apply (k0_pay1 P0) r g a (fun l => A r.val (128 * g.val + l)) (groups_apply P0 A hA r g)]
  rfl

/-- The scale of each group. -/
theorem dyScale_apply (r : Fin 12288) (g : Fin 128) : k0_pay4 P0 (ix2 r g) = Quantise.rowScale A r.val g.val := by
  have h : ∀ T : FVec Ideal S12288x128x1 .f32, shapeCast S12288x128 T shapeCasts_S12288x128x1_S12288x128 (ix2 r g) = T (ix3 r g 0) := by
    intro T
    pointwise []
  have e : k0_pay4 P0 = shapeCast S12288x128 (exp2 (k0_pay2 P0)) shapeCasts_S12288x128x1_S12288x128 := rfl
  rw [e, h, exp2_apply, dyExpo_apply P0 A hA, Quantise.rowScale, Quantise.scale]

omit hA in
/-- Groups put back into a matrix, at an index. -/
theorem merge_apply (T : FVec Ideal S12288x128x128 .f32) (r : Fin 12288) (k : Fin 16384) :
    shapeCast S12288x16384 T shapeCasts_S12288x128x128_S12288x16384 (ix2 r k) = T (ix3 r ⟨k.val / 128, by omega⟩ ⟨k.val % 128, by omega⟩) := by
  pointwise []

omit hA in
/-- One value for each group, spread over the group. -/
theorem spread_apply (T : FVec Ideal S12288x128x1 .f32) (r : Fin 12288) (g l : Fin 128) :
    broadcastTo S12288x128x128 T broadcasts_S12288x128x1_S12288x128x128 (ix3 r g l) = T (ix3 r g 0) := by
  pointwise []

/-- The gradient's codes. -/
theorem dyCode_apply (r : Fin 12288) (k : Fin 16384) : k0_pay3 P0 (ix2 r k) = Quantise.rowCode A r.val k.val := by
  have e : k0_pay3 P0 = shapeCast S12288x16384 (codes (k0_pay1 P0) (broadcastTo S12288x128x128 (inverses (k0_pay2 P0)) broadcasts_S12288x128x1_S12288x128x128))
    shapeCasts_S12288x128x128_S12288x16384 := rfl
  rw [e, merge_apply, codes_apply, spread_apply, inverses_apply, dyExpo_apply P0 A hA, groups_apply P0 A hA]
  show _ = Quantise.code (A r.val k.val) (Quantise.rowMax A r.val (k.val / 128))
  rw [Quantise.code]
  simp only [Nat.div_add_mod]

omit hA in
/-- The codes in groups again, at an index. -/
theorem split_apply (T : FVec Ideal S12288x16384 .bf16) (r : Fin 12288) (g l : Fin 128) (hk : 128 * g.val + l.val < 16384) :
    shapeCast S12288x128x128 T shapeCasts_S12288x16384_S12288x128x128 (ix3 r g l) = T (ix2 r ⟨128 * g.val + l.val, hk⟩) := by
  have h : shapeCast S12288x128x128 T shapeCasts_S12288x16384_S12288x128x128 (ix3 r g l) = T (ix2 r ⟨g.val * 128 + l.val, by omega⟩) := by
    pointwise []
  rw [h]
  simp only [Nat.mul_comm]

omit hA in
/-- The dequantised groups put back into a matrix. -/
theorem mergeBf_apply (T : FVec Ideal S12288x128x128 .bf16) (r : Fin 12288) (k : Fin 16384) :
    shapeCast S12288x16384 T shapeCasts_S12288x128x128_S12288x16384 (ix2 r k) = T (ix3 r ⟨k.val / 128, by omega⟩ ⟨k.val % 128, by omega⟩) := by
  pointwise []

omit hA in
/-- One scale for each group, spread over the group. -/
theorem spreadScale_apply (T : FVec Ideal S12288x128 .bf16) (r : Fin 12288) (g l : Fin 128) :
    broadcastTo S12288x128x128 (shapeCast S12288x128x1 T shapeCasts_S12288x128_S12288x128x1) broadcasts_S12288x128x1_S12288x128x128 (ix3 r g l)
      = T (ix2 r g) := by
  pointwise []

omit hA in
/-- A product of arrays, at an index. -/
theorem mulBf_apply {s : Shape} (x y : FVec Ideal s .bf16) (j : s.Idx) : mulf x y j = x j * y j := rfl

/-- The dequantised gradient at an index. -/
theorem dyDeq_apply (r : Fin 12288) (k : Fin 16384) : k0_pay5 P0 (ix2 r k) = Quantise.deq A r.val k.val := by
  have e : k0_pay5 P0 = shapeCast S12288x16384 (mulf (φ := .bf16)
      (shapeCast S12288x128x128 (extf .bf16 (k0_pay3 P0) bitsLt_fp8e4m3_bf16) shapeCasts_S12288x16384_S12288x128x128)
      (broadcastTo S12288x128x128 (shapeCast S12288x128x1 (truncf .bf16 (k0_pay4 P0) bitsLt_bf16_f32) shapeCasts_S12288x128_S12288x128x1)
        broadcasts_S12288x128x1_S12288x128x128)) shapeCasts_S12288x128x128_S12288x16384 := rfl
  rw [e, mergeBf_apply, mulBf_apply, split_apply (hk := by simp only []; omega), spreadScale_apply, widen_eq, narrow_eq, dyCode_apply P0 A hA, dyScale_apply P0 A hA]
  rw [Quantise.deq]
  simp only [Nat.div_add_mod]

end Dy

end Cert.ReferenceIdeal.Proof
-- ==== Proof.RefProduct.lean ====
/-
  The reference's product over the reals: one contraction over all 16384 columns.
-/
module

public import proofs.«01_k».proof.Proof.RefValue

@[expose] public section

set_option maxRecDepth 16384

noncomputable section

namespace Cert.ReferenceIdeal.Proof

open Cert.ReferenceIdeal.Gen
open Idealize.ShloMosaic

/-- The weight cut into blocks of 128 by 128, at an index. -/
theorem blocks_apply (T : FVec Ideal S6144x16384 .bf16) (p : Fin 48) (a g l : Fin 128) :
    shapeCast S48x128x128x128 T shapeCasts_S6144x16384_S48x128x128x128 (ix4 p a g l)
      = T (ix2 ⟨p.val * 128 + a.val, by omega⟩ ⟨g.val * 128 + l.val, by omega⟩) := by
  pointwise []

/-- The blocks put back into a matrix, at an index. -/
theorem unblocks_apply (T : FVec Ideal S48x128x128x128 .bf16) (n : Fin 6144) (k : Fin 16384) :
    shapeCast S6144x16384 T shapeCasts_S48x128x128x128_S6144x16384 (ix2 n k)
      = T (ix4 ⟨n.val / 128, by omega⟩ ⟨n.val % 128, by omega⟩ ⟨k.val / 128, by omega⟩ ⟨k.val % 128, by omega⟩) := by
  pointwise []

/-- One scale for each block, spread over the block. -/
theorem blockScale_apply (T : FVec Ideal S48x128 .bf16) (p : Fin 48) (a g l : Fin 128) :
    broadcastTo S48x128x128x128 (shapeCast S48x1x128x1 T shapeCasts_S48x128_S48x1x128x1) broadcasts_S48x1x128x1_S48x128x128x128 (ix4 p a g l)
      = T (ix2 p g) := by
  pointwise []

/-- The contraction at an index is a sum over the 16384 columns. -/
theorem contract_apply (x : FVec Ideal S12288x16384 .bf16) (y : FVec Ideal S6144x16384 .bf16) (r : Fin 12288) (n : Fin 6144) :
    matmul dot_S12288x16384_S6144x16384_S12288x6144_1_1_0_0_n_n none x y (constant S12288x6144 .f32 0x00000000#32) (ix2 r n)
      = ∑ k : Fin 16384, x (ix2 r k) * y (ix2 n k) := by
  pointwise []

section

variable (P1 : Vec Ideal S6144x16384 .fp8e4m3) (P2 : Vec Ideal S48x128 .f32) (W S : ℕ → ℕ → EReal)
  (hW : ∀ (n : Fin 6144) (k : Fin 16384), P1 (ix2 n k) = W n.val k.val) (hS : ∀ (a : Fin 48) (b : Fin 128), P2 (ix2 a b) = S a.val b.val)

/-- The weight times the scales of its blocks, as a matrix. -/
abbrev scaled (v44 : FVec Ideal S48x128x128x128 .bf16) (v45 : FVec Ideal S48x128 .f32) : FVec Ideal S6144x16384 .bf16 :=
  shapeCast S6144x16384 (mulf (φ := .bf16) v44
    (broadcastTo S48x128x128x128 (shapeCast S48x1x128x1 (truncf .bf16 v45 bitsLt_bf16_f32) shapeCasts_S48x128_S48x1x128x1)
      broadcasts_S48x1x128x1_S48x128x128x128)) shapeCasts_S48x128x128x128_S6144x16384

/-- The product in terms of its two operands. -/
theorem product_eq (v41 : FVec Ideal S12288x16384 .bf16) (v44 : FVec Ideal S48x128x128x128 .bf16) (v45 : Vec Ideal S48x128 .f32) :
    k0_pay7 v41 v44 v45 = matmul dot_S12288x16384_S6144x16384_S12288x6144_1_1_0_0_n_n none v41 (scaled v44 v45)
      (constant S12288x6144 .f32 0x00000000#32) := rfl

include hW hS in
/-- The dequantised weight at an index. -/
theorem scaled_apply (n : Fin 6144) (k : Fin 16384) : scaled (k0_pay6 P1) P2 (ix2 n k) = Quantise.weight W S n.val k.val := by
  have h6 : k0_pay6 P1 = shapeCast S48x128x128x128 (extf .bf16 P1 bitsLt_fp8e4m3_bf16) shapeCasts_S6144x16384_S48x128x128x128 := rfl
  rw [scaled, unblocks_apply, mulBf_apply, blockScale_apply, h6, blocks_apply, widen_eq, narrow_eq, hW, hS, Quantise.weight]
  simp only [Nat.div_add_mod']

variable (P0 : Vec Ideal S12288x16384 .bf16) (A : ℕ → ℕ → EReal) (hA : ∀ (r : Fin 12288) (k : Fin 16384), P0 (ix2 r k) = A r.val k.val)

include hA hW hS in
/-- The product at an index. -/
theorem product_apply (r : Fin 12288) (n : Fin 6144) :
    k0_pay7 (k0_pay5 P0) (k0_pay6 P1) P2 (ix2 r n) = Quantise.prod A W S r.val n.val := by
  rw [product_eq, contract_apply, Quantise.prod]
  refine Finset.sum_congr rfl fun k _ => ?_
  rw [dyDeq_apply P0 A hA, scaled_apply P1 P2 W S hW hS]

end

end Cert.ReferenceIdeal.Proof
-- ==== Proof.RefRequant.lean ====
/-
  The reference's product over the reals, quantised along its rows and along its columns.
-/
module

public import proofs.«01_k».proof.Proof.RefValue

@[expose] public section

set_option maxRecDepth 16384

noncomputable section

namespace Cert.ReferenceIdeal.Proof

open Cert.ReferenceIdeal.Gen
open Idealize.ShloMosaic

variable (v41 : FVec Ideal S12288x16384 .bf16) (v44 : FVec Ideal S48x128x128x128 .bf16) (v45 : Vec Ideal S48x128 .f32)
  (B : ℕ → ℕ → EReal) (hB : ∀ (r : Fin 12288) (n : Fin 6144), k0_pay7 v41 v44 v45 (ix2 r n) = B r.val n.val)

/-! ## Along the rows -/

section Rows

/-- The product in groups of 128 columns, at an index. -/
theorem rowSplit_apply (T : FVec Ideal S12288x6144 .f32) (r : Fin 12288) (g : Fin 48) (l : Fin 128) :
    shapeCast S12288x48x128 T shapeCasts_S12288x6144_S12288x48x128 (ix3 r g l) = T (ix2 r ⟨g.val * 128 + l.val, by omega⟩) := by
  pointwise []

/-- Groups of columns put back, at an index. -/
theorem rowMerge_apply (T : FVec Ideal S12288x48x128 .f32) (r : Fin 12288) (n : Fin 6144) :
    shapeCast S12288x6144 T shapeCasts_S12288x48x128_S12288x6144 (ix2 r n) = T (ix3 r ⟨n.val / 128, by omega⟩ ⟨n.val % 128, by omega⟩) := by
  pointwise []

/-- One value for each group of columns, spread over the group. -/
theorem rowSpread_apply (T : FVec Ideal S12288x48x1 .f32) (r : Fin 12288) (g : Fin 48) (l : Fin 128) :
    broadcastTo S12288x48x128 T broadcasts_S12288x48x1_S12288x48x128 (ix3 r g l) = T (ix3 r g 0) := by
  pointwise []

/-- The unit axis dropped. -/
theorem rowDrop_apply (T : FVec Ideal S12288x48x1 .f32) (r : Fin 12288) (g : Fin 48) :
    shapeCast S12288x48 T shapeCasts_S12288x48x1_S12288x48 (ix2 r g) = T (ix3 r g 0) := by
  pointwise []

/-- The greatest magnitude of each group of columns, at an index. -/
theorem rowMax_apply (T : FVec Ideal S12288x48x128 .f32) (r : Fin 12288) (g : Fin 48) (a : Fin 1) (f : ℕ → EReal) (hf : ∀ l : Fin 128, T (ix3 r g l) = f l.val) :
    shapeCast S12288x48x1 (multiReduction .maximumf [2] S12288x48 (absf T) 0xFF800000#32
      reduces_S12288x48x128_S12288x48 (.inl rfl) rfl) shapeCasts_S12288x48_S12288x48x1 (ix3 r g a) = Quantise.amax f := by
  pointwise [Quantise.amax]
  simp only [hf]
  rfl

include hB in
/-- The grouped product in terms of the product. -/
theorem rowGroups_apply (r : Fin 12288) (g : Fin 48) (l : Fin 128) : k0_pay8 v41 v44 v45 (ix3 r g l) = B r.val (128 * g.val + l.val) := by
  have e : k0_pay8 v41 v44 v45 = shapeCast S12288x48x128 (k0_pay7 v41 v44 v45) shapeCasts_S12288x6144_S12288x48x128 := rfl
  rw [e, rowSplit_apply, hB]
  simp only [Nat.mul_comm]

include hB in
/-- The exponent of each group of columns. -/
theorem rowExpo_apply (r : Fin 12288) (g : Fin 48) (a : Fin 1) :
    k0_pay9 v41 v44 v45 (ix3 r g a) = Quantise.expo (Quantise.ratio (Quantise.rowMax B r.val g.val)) := by
  have e : k0_pay9 v41 v44 v45 = expos (ratios (shapeCast S12288x48x1 (multiReduction .maximumf [2] S12288x48 (absf (k0_pay8 v41 v44 v45)) 0xFF800000#32
    reduces_S12288x48x128_S12288x48 (.inl rfl) rfl) shapeCasts_S12288x48_S12288x48x1)) := rfl
  rw [e, expos_apply, ratios_apply, rowMax_apply _ r g a (fun l => B r.val (128 * g.val + l)) (rowGroups_apply v41 v44 v45 B hB r g)]
  rfl

include hB in
/-- The scale of each group of columns. -/
theorem rowScale_apply (r : Fin 12288) (g : Fin 48) : k0_pay11 v41 v44 v45 (ix2 r g) = Quantise.rowScale B r.val g.val := by
  have e : k0_pay11 v41 v44 v45 = shapeCast S12288x48 (exp2 (k0_pay9 v41 v44 v45)) shapeCasts_S12288x48x1_S12288x48 := rfl
  rw [e, rowDrop_apply, exp2_apply, rowExpo_apply v41 v44 v45 B hB, Quantise.rowScale, Quantise.scale]

include hB in
/-- The codes by rows. -/
theorem rowCode_apply (r : Fin 12288) (n : Fin 6144) : k0_pay10 v41 v44 v45 (ix2 r n) = Quantise.rowCode B r.val n.val := by
  have e : k0_pay10 v41 v44 v45 = shapeCast S12288x6144 (codes (k0_pay8 v41 v44 v45)
      (broadcastTo S12288x48x128 (inverses (k0_pay9 v41 v44 v45)) broadcasts_S12288x48x1_S12288x48x128)) shapeCasts_S12288x48x128_S12288x6144 := rfl
  rw [e, rowMerge_apply, codes_apply, rowSpread_apply, inverses_apply, rowExpo_apply v41 v44 v45 B hB, rowGroups_apply v41 v44 v45 B hB]
  rw [Quantise.rowCode, Quantise.code]
  simp only [Nat.div_add_mod]

end Rows

/-! ## Along the columns -/

section Columns

/-- The product in groups of 128 rows, at an index. -/
theorem colSplit_apply (T : FVec Ideal S12288x6144 .f32) (h : Fin 96) (l : Fin 128) (n : Fin 6144) :
    shapeCast S96x128x6144 T shapeCasts_S12288x6144_S96x128x6144 (ix3 h l n) = T (ix2 ⟨h.val * 128 + l.val, by omega⟩ n) := by
  pointwise []

/-- Groups of rows put back, at an index. -/
theorem colMerge_apply (T : FVec Ideal S96x128x6144 .f32) (r : Fin 12288) (n : Fin 6144) :
    shapeCast S12288x6144 T shapeCasts_S96x128x6144_S12288x6144 (ix2 r n) = T (ix3 ⟨r.val / 128, by omega⟩ ⟨r.val % 128, by omega⟩ n) := by
  pointwise []

/-- One value for each group of rows, spread over the group. -/
theorem colSpread_apply (T : FVec Ideal S96x1x6144 .f32) (h : Fin 96) (l : Fin 128) (n : Fin 6144) :
    broadcastTo S96x128x6144 T broadcasts_S96x1x6144_S96x128x6144 (ix3 h l n) = T (ix3 h 0 n) := by
  pointwise []

/-- The scales laid out four groups of rows at a time. -/
theorem colDrop_apply (T : FVec Ideal S96x1x6144 .f32) (p : Fin 24) (q : Fin 4) (n : Fin 6144) :
    shapeCast S24x4x6144 (shapeCast S96x6144 T shapeCasts_S96x1x6144_S96x6144) shapeCasts_S96x6144_S24x4x6144 (ix3 p q n)
      = T (ix3 ⟨p.val * 4 + q.val, by omega⟩ 0 n) := by
  pointwise []

/-- The greatest magnitude of each group of rows, at an index. -/
theorem colMax_apply (T : FVec Ideal S96x128x6144 .f32) (h : Fin 96) (a : Fin 1) (n : Fin 6144) (f : ℕ → EReal) (hf : ∀ l : Fin 128, T (ix3 h l n) = f l.val) :
    shapeCast S96x1x6144 (multiReduction .maximumf [1] S96x6144 (absf T) 0xFF800000#32
      reduces_S96x128x6144_S96x6144 (.inl rfl) rfl) shapeCasts_S96x6144_S96x1x6144 (ix3 h a n) = Quantise.amax f := by
  pointwise [Quantise.amax]
  simp only [hf]
  rfl

include hB in
/-- The grouped product in terms of the product. -/
theorem colGroups_apply (h : Fin 96) (l : Fin 128) (n : Fin 6144) : k0_pay12 v41 v44 v45 (ix3 h l n) = B (128 * h.val + l.val) n.val := by
  have e : k0_pay12 v41 v44 v45 = shapeCast S96x128x6144 (k0_pay7 v41 v44 v45) shapeCasts_S12288x6144_S96x128x6144 := rfl
  rw [e, colSplit_apply, hB]
  simp only [Nat.mul_comm]

variable (v86 : FVec Ideal S96x128x6144 .f32) (hv : ∀ (h : Fin 96) (l : Fin 128) (n : Fin 6144), v86 (ix3 h l n) = B (128 * h.val + l.val) n.val)

include hv

/-- The exponent of each group of rows. -/
theorem colExpo_apply (h : Fin 96) (a : Fin 1) (n : Fin 6144) :
    k0_pay13 v86 (ix3 h a n) = Quantise.expo (Quantise.ratio (Quantise.colMax B h.val n.val)) := by
  have e : k0_pay13 v86 = expos (ratios (shapeCast S96x1x6144 (multiReduction .maximumf [1] S96x6144 (absf v86) 0xFF800000#32
    reduces_S96x128x6144_S96x6144 (.inl rfl) rfl) shapeCasts_S96x6144_S96x1x6144)) := rfl
  rw [e, expos_apply, ratios_apply, colMax_apply v86 h a n (fun l => B (128 * h.val + l) n.val) (fun l => hv h l n)]
  rfl

/-- The scale of each group of rows. -/
theorem colScale_apply (p : Fin 24) (q : Fin 4) (n : Fin 6144) :
    k0_pay15 v86 (ix3 p q n) = Quantise.colScale B (4 * p.val + q.val) n.val := by
  have e : k0_pay15 v86 = shapeCast S24x4x6144 (shapeCast S96x6144 (exp2 (k0_pay13 v86)) shapeCasts_S96x1x6144_S96x6144) shapeCasts_S96x6144_S24x4x6144 := rfl
  rw [e, colDrop_apply, exp2_apply, colExpo_apply B v86 hv, Quantise.colScale, Quantise.scale]
  simp only [Nat.mul_comm]

/-- The codes by columns. -/
theorem colCode_apply (r : Fin 12288) (n : Fin 6144) : k0_pay14 v86 (ix2 r n) = Quantise.colCode B r.val n.val := by
  have e : k0_pay14 v86 = shapeCast S12288x6144 (codes v86 (broadcastTo S96x128x6144 (inverses (k0_pay13 v86)) broadcasts_S96x1x6144_S96x128x6144))
    shapeCasts_S96x128x6144_S12288x6144 := rfl
  rw [e, colMerge_apply, codes_apply, colSpread_apply, inverses_apply, colExpo_apply B v86 hv, hv]
  rw [Quantise.colCode, Quantise.code]
  simp only [Nat.div_add_mod]

end Columns

end Cert.ReferenceIdeal.Proof
-- ==== Proof.RefArrays.lean ====
/-
  The reference's result arrays, over the reals: each is the quantiser's function at its index.
-/
module

public import proofs.«01_k».proof.Proof.Gen.ReferenceIdeal.Frame
public import proofs.«01_k».proof.Proof.RefProduct
public import proofs.«01_k».proof.Proof.RefRequant
public import Idealize.ShloMosaic.Lib.Pipeline.ValueKit.Geometry
public import Idealize.ShloMosaic.Lib.Pipeline.ValueKit.Acc

@[expose] public section

set_option maxRecDepth 16384

noncomputable section

namespace Cert.ReferenceIdeal.Proof

open Cert.ReferenceIdeal.Gen
open Idealize.ShloMosaic
open Idealize.ShloMosaic.TcCoe

/-! ## One run of the body on whole arrays -/

section Body

variable (x0 : Vec Ideal S12288x16384 .bf16) (x1 : Vec Ideal S6144x16384 .fp8e4m3) (x2 : Vec Ideal S48x128 .f32) (A W S : ℕ → ℕ → EReal)
  (hA : ∀ (r : Fin 12288) (k : Fin 16384), x0 (ix2 r k) = A r.val k.val) (hW : ∀ (n : Fin 6144) (k : Fin 16384), x1 (ix2 n k) = W n.val k.val)
  (hS : ∀ (a : Fin 48) (b : Fin 128), x2 (ix2 a b) = S a.val b.val)

/-- A whole array loaded is the array. -/
theorem load0 : View.ld x0 r0_0 = x0 := View.ld_unit_lit _ x0 (by decide)
theorem load1 : View.ld x1 r0_1 = x1 := View.ld_unit_lit _ x1 (by decide)
theorem load2 : View.ld x2 r0_2 = x2 := View.ld_unit_lit _ x2 (by decide)

/-- What the body stores, in terms of the arrays. -/
theorem out3_eq : out0_3 x0 x1 x2 = k0_pay10 (k0_pay5 x0) (k0_pay6 x1) x2 := by
  rw [out0_3, View.canon_cons_unit_lit _ _ _ (by decide), k0_pay16, k0_pay17, load0, load1, load2]
theorem out4_eq : out0_4 x0 x1 x2 = k0_pay11 (k0_pay5 x0) (k0_pay6 x1) x2 := by
  rw [out0_4, View.canon_cons_unit_lit _ _ _ (by decide), k0_pay16, k0_pay17, load0, load1, load2]
theorem out5_eq : out0_5 x0 x1 x2 = k0_pay14 (k0_pay12 (k0_pay5 x0) (k0_pay6 x1) x2) := by
  rw [out0_5, View.canon_cons_unit_lit _ _ _ (by decide), k0_pay18, k0_pay16, k0_pay17, load0, load1, load2]
theorem out6_eq : out0_6 x0 x1 x2 = k0_pay15 (k0_pay12 (k0_pay5 x0) (k0_pay6 x1) x2) := by
  rw [out0_6, View.canon_cons_unit_lit _ _ _ (by decide), k0_pay18, k0_pay16, k0_pay17, load0, load1, load2]
theorem out7_eq : out0_7 x0 x1 x2 = k0_pay3 x0 := by
  rw [out0_7, View.canon_cons_unit_lit _ _ _ (by decide), load0]
theorem out8_eq : out0_8 x0 x1 x2 = k0_pay4 x0 := by
  rw [out0_8, View.canon_cons_unit_lit _ _ _ (by decide), load0]

include hA hW hS

/-- The product's codes by rows, at an index. -/
theorem out3_apply (r : Fin 12288) (n : Fin 6144) : out0_3 x0 x1 x2 (ix2 r n) = Quantise.rowCode (Quantise.prod A W S) r.val n.val := by
  rw [out3_eq, rowCode_apply _ _ _ _ (product_apply x1 x2 W S hW hS x0 A hA)]
/-- The product's row scales, at an index. -/
theorem out4_apply (r : Fin 12288) (g : Fin 48) : out0_4 x0 x1 x2 (ix2 r g) = Quantise.rowScale (Quantise.prod A W S) r.val g.val := by
  rw [out4_eq, rowScale_apply _ _ _ _ (product_apply x1 x2 W S hW hS x0 A hA)]
/-- The product's codes by columns, at an index. -/
theorem out5_apply (r : Fin 12288) (n : Fin 6144) : out0_5 x0 x1 x2 (ix2 r n) = Quantise.colCode (Quantise.prod A W S) r.val n.val := by
  rw [out5_eq, colCode_apply _ _ (colGroups_apply _ _ _ _ (product_apply x1 x2 W S hW hS x0 A hA))]
/-- The product's column scales, at an index. -/
theorem out6_apply (p : Fin 24) (q : Fin 4) (n : Fin 6144) :
    out0_6 x0 x1 x2 (ix3 p q n) = Quantise.colScale (Quantise.prod A W S) (4 * p.val + q.val) n.val := by
  rw [out6_eq, colScale_apply _ _ (colGroups_apply _ _ _ _ (product_apply x1 x2 W S hW hS x0 A hA))]
omit hW hS in
/-- The gradient's codes, at an index. -/
theorem out7_apply (r : Fin 12288) (k : Fin 16384) : out0_7 x0 x1 x2 (ix2 r k) = Quantise.rowCode A r.val k.val := by
  rw [out7_eq, dyCode_apply x0 A hA]
omit hW hS in
/-- The gradient's scales, at an index. -/
theorem out8_apply (r : Fin 12288) (g : Fin 128) : out0_8 x0 x1 x2 (ix2 r g) = Quantise.rowScale A r.val g.val := by
  rw [out8_eq, dyScale_apply x0 A hA]

end Body

/-! ## The arrays after the one grid point -/

section Arrays

variable (m : (ℓ : Loc nD τ sig) → Buf (Elt Ideal) ℓ) (c : Dev nD) (A W S : ℕ → ℕ → EReal)
  (hA : ∀ (r : Fin 12288) (k : Fin 16384), (V m c main_v0 : S12288x16384.Idx → EReal) (ix2 r k) = A r.val k.val)
  (hW : ∀ (n : Fin 6144) (k : Fin 16384), (V m c main_arg1 : S6144x16384.Idx → EReal) (ix2 n k) = W n.val k.val)
  (hS : ∀ (a : Fin 48) (b : Fin 128), (V m c main_arg2 : S48x128.Idx → EReal) (ix2 a b) = S a.val b.val)

/-- The one grid point's blocks begin at the origin. -/
theorem index0 : ∀ (t : Fin cfg0.N) (a), win0_0.index t a = 0 := (by decide +kernel : ∀ (t : Fin grid0.N) (a), win0_0.index t a = 0)
theorem index1 : ∀ (t : Fin cfg0.N) (a), win0_1.index t a = 0 := (by decide +kernel : ∀ (t : Fin grid0.N) (a), win0_1.index t a = 0)
theorem index2 : ∀ (t : Fin cfg0.N) (a), win0_2.index t a = 0 := (by decide +kernel : ∀ (t : Fin grid0.N) (a), win0_2.index t a = 0)
theorem index3 : ∀ (t : Fin cfg0.N) (a), win0_3.index t a = 0 := (by decide +kernel : ∀ (t : Fin grid0.N) (a), win0_3.index t a = 0)
theorem index4 : ∀ (t : Fin cfg0.N) (a), win0_4.index t a = 0 := (by decide +kernel : ∀ (t : Fin grid0.N) (a), win0_4.index t a = 0)
theorem index5 : ∀ (t : Fin cfg0.N) (a), win0_5.index t a = 0 := (by decide +kernel : ∀ (t : Fin grid0.N) (a), win0_5.index t a = 0)
theorem index6 : ∀ (t : Fin cfg0.N) (a), win0_6.index t a = 0 := (by decide +kernel : ∀ (t : Fin grid0.N) (a), win0_6.index t a = 0)
theorem index7 : ∀ (t : Fin cfg0.N) (a), win0_7.index t a = 0 := (by decide +kernel : ∀ (t : Fin grid0.N) (a), win0_7.index t a = 0)
theorem index8 : ∀ (t : Fin cfg0.N) (a), win0_8.index t a = 0 := (by decide +kernel : ∀ (t : Fin grid0.N) (a), win0_8.index t a = 0)

/-- The blocks the body reads are the whole arrays. -/
theorem block0 (t : Fin cfg0.N) (y : S12288x16384.Idx) :
    (iblk m c 0 t : S12288x16384.Idx → EReal) y = (V m c main_v0 : S12288x16384.Idx → EReal) y := by
  blk_simp [iblk]
  congr 1
  blk_ext [index0 t]

theorem block1 (t : Fin cfg0.N) (y : S6144x16384.Idx) :
    (iblk m c 1 t : S6144x16384.Idx → EReal) y = (V m c main_arg1 : S6144x16384.Idx → EReal) y := by
  blk_simp [iblk]
  congr 1
  blk_ext [index1 t]

theorem block2 (t : Fin cfg0.N) (y : S48x128.Idx) :
    (iblk m c 2 t : S48x128.Idx → EReal) y = (V m c main_arg2 : S48x128.Idx → EReal) y := by
  blk_simp [iblk]
  congr 1
  blk_ext [index2 t]

include hA hW hS

/-- The product's codes by rows. -/
theorem array3 : (dats m 0 c).arrAt 3 cfg0.N = fun j : S12288x6144.Idx => Quantise.rowCode (Quantise.prod A W S) (j 0).val (j 1).val := by
  refine Pipeline.Dat.arrAt_eq_of_covers _ 3 _ (by decide +kernel) fun t hf y => ?_
  have h : ∀ y : S12288x6144.Idx, out0_3 (iblk m c 0 t) (iblk m c 1 t) (iblk m c 2 t) y = _ := fun y =>
    (congrArg _ (eq_ix2 y)).trans (out3_apply _ _ _ A W S (fun r k => (block0 m c t _).trans (hA r k)) (fun n k => (block1 m c t _).trans (hW n k))
      (fun a b => (block2 m c t _).trans (hS a b)) (y 0) (y 1))
  blk_simp
  rw [after0_3]
  refine (h y).trans ?_
  simp [index3]

/-- The product's row scales. -/
theorem array4 : (dats m 0 c).arrAt 4 cfg0.N = fun j : S12288x48.Idx => Quantise.rowScale (Quantise.prod A W S) (j 0).val (j 1).val := by
  refine Pipeline.Dat.arrAt_eq_of_covers _ 4 _ (by decide +kernel) fun t hf y => ?_
  have h : ∀ y : S12288x48.Idx, out0_4 (iblk m c 0 t) (iblk m c 1 t) (iblk m c 2 t) y = _ := fun y =>
    (congrArg _ (eq_ix2 y)).trans (out4_apply _ _ _ A W S (fun r k => (block0 m c t _).trans (hA r k)) (fun n k => (block1 m c t _).trans (hW n k))
      (fun a b => (block2 m c t _).trans (hS a b)) (y 0) (y 1))
  blk_simp
  rw [after0_4]
  refine (h y).trans ?_
  simp [index4]

/-- The product's codes by columns. -/
theorem array5 : (dats m 0 c).arrAt 5 cfg0.N = fun j : S12288x6144.Idx => Quantise.colCode (Quantise.prod A W S) (j 0).val (j 1).val := by
  refine Pipeline.Dat.arrAt_eq_of_covers _ 5 _ (by decide +kernel) fun t hf y => ?_
  have h : ∀ y : S12288x6144.Idx, out0_5 (iblk m c 0 t) (iblk m c 1 t) (iblk m c 2 t) y = _ := fun y =>
    (congrArg _ (eq_ix2 y)).trans (out5_apply _ _ _ A W S (fun r k => (block0 m c t _).trans (hA r k)) (fun n k => (block1 m c t _).trans (hW n k))
      (fun a b => (block2 m c t _).trans (hS a b)) (y 0) (y 1))
  blk_simp
  rw [after0_5]
  refine (h y).trans ?_
  simp [index5]

/-- The product's column scales. -/
theorem array6 : (dats m 0 c).arrAt 6 cfg0.N = fun j : S24x4x6144.Idx => Quantise.colScale (Quantise.prod A W S) (4 * (j 0).val + (j 1).val) (j 2).val := by
  refine Pipeline.Dat.arrAt_eq_of_covers _ 6 _ (by decide +kernel) fun t hf y => ?_
  have h : ∀ y : S24x4x6144.Idx, out0_6 (iblk m c 0 t) (iblk m c 1 t) (iblk m c 2 t) y = _ := fun y =>
    (congrArg _ (eq_ix3 y)).trans (out6_apply _ _ _ A W S (fun r k => (block0 m c t _).trans (hA r k)) (fun n k => (block1 m c t _).trans (hW n k))
      (fun a b => (block2 m c t _).trans (hS a b)) (y 0) (y 1) (y 2))
  blk_simp
  rw [after0_6]
  refine (h y).trans ?_
  simp [index6]

omit hW hS in
/-- The gradient's codes. -/
theorem array7 : (dats m 0 c).arrAt 7 cfg0.N = fun j : S12288x16384.Idx => Quantise.rowCode A (j 0).val (j 1).val := by
  refine Pipeline.Dat.arrAt_eq_of_covers _ 7 _ (by decide +kernel) fun t hf y => ?_
  have h : ∀ y : S12288x16384.Idx, out0_7 (iblk m c 0 t) (iblk m c 1 t) (iblk m c 2 t) y = _ := fun y =>
    (congrArg _ (eq_ix2 y)).trans (out7_apply _ _ _ A (fun r k => (block0 m c t _).trans (hA r k)) (y 0) (y 1))
  blk_simp
  rw [after0_7]
  refine (h y).trans ?_
  simp [index7]

omit hW hS in
/-- The gradient's scales. -/
theorem array8 : (dats m 0 c).arrAt 8 cfg0.N = fun j : S12288x128.Idx => Quantise.rowScale A (j 0).val (j 1).val := by
  refine Pipeline.Dat.arrAt_eq_of_covers _ 8 _ (by decide +kernel) fun t hf y => ?_
  have h : ∀ y : S12288x128.Idx, out0_8 (iblk m c 0 t) (iblk m c 1 t) (iblk m c 2 t) y = _ := fun y =>
    (congrArg _ (eq_ix2 y)).trans (out8_apply _ _ _ A (fun r k => (block0 m c t _).trans (hA r k)) (y 0) (y 1))
  blk_simp
  rw [after0_8]
  refine (h y).trans ?_
  simp [index8]

end Arrays

end Cert.ReferenceIdeal.Proof
-- ==== Proof.RefResult.lean ====
/-
  The run of the reference over the reals, given its arguments as functions of two numbers: every result array holds the
  quantiser's function, and the arguments are unchanged.
-/
module

public import proofs.«01_k».proof.Proof.RefArrays

@[expose] public section

noncomputable section

namespace Cert.ReferenceIdeal.Proof

open Cert.ReferenceIdeal.Gen
open Idealize.ShloMosaic
open Idealize.ShloMosaic.TcCoe Idealize.SL.Sem

variable (m : (ℓ : Loc nD τ sig) → Buf (Elt Ideal) ℓ) (ρ : Dev nD → PrngReg)

/-- The gradient as the reference finds it: its first two axes flattened. -/
theorem gradient (c : Dev nD) : (V m c main_v0 : S12288x16384.Idx → EReal)
    = shapeCast S12288x16384 (m ((c.tc : Thread nD τ).loc main_arg0) : S6x2048x16384.Idx → EReal) shapeCasts_S6x2048x16384_S12288x16384 := by
  rfl

/-- What the reference computes. -/
theorem result (A W S : Dev nD → ℕ → ℕ → EReal)
    (hA : ∀ c (r : Fin 12288) (k : Fin 16384), (V m c main_v0 : S12288x16384.Idx → EReal) (ix2 r k) = A c r.val k.val)
    (hW : ∀ c (n : Fin 6144) (k : Fin 16384), (V m c main_arg1 : S6144x16384.Idx → EReal) (ix2 n k) = W c n.val k.val)
    (hS : ∀ c (a : Fin 48) (b : Fin 128), (V m c main_arg2 : S48x128.Idx → EReal) (ix2 a b) = S c a.val b.val) :
    θ_run defs (onTc (τ := τ) (main (F := Ideal))) ⟨m, fun _ => 0, ρ⟩ (fun r => ∀ c : Dev nD,
    r.2.mem ((c.tc : Thread nD τ).loc main_v1_0) = (fun j : S12288x6144.Idx => Quantise.rowCode (Quantise.prod (A c) (W c) (S c)) (j 0).val (j 1).val)
      ∧ r.2.mem ((c.tc : Thread nD τ).loc main_v1_1) = (fun j : S12288x48.Idx => Quantise.rowScale (Quantise.prod (A c) (W c) (S c)) (j 0).val (j 1).val)
      ∧ r.2.mem ((c.tc : Thread nD τ).loc main_v1_2) = (fun j : S12288x6144.Idx => Quantise.colCode (Quantise.prod (A c) (W c) (S c)) (j 0).val (j 1).val)
      ∧ r.2.mem ((c.tc : Thread nD τ).loc main_v1_3)
        = (fun j : S24x4x6144.Idx => Quantise.colScale (Quantise.prod (A c) (W c) (S c)) (4 * (j 0).val + (j 1).val) (j 2).val)
      ∧ r.2.mem ((c.tc : Thread nD τ).loc main_v1_4) = (fun j : S12288x16384.Idx => Quantise.rowCode (A c) (j 0).val (j 1).val)
      ∧ r.2.mem ((c.tc : Thread nD τ).loc main_v1_5) = (fun j : S12288x128.Idx => Quantise.rowScale (A c) (j 0).val (j 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m ρ)
  exact ⟨((h c).1 3).trans (array3 m c _ _ _ (hA c) (hW c) (hS c)), ((h c).1 4).trans (array4 m c _ _ _ (hA c) (hW c) (hS c)),
    ((h c).1 5).trans (array5 m c _ _ _ (hA c) (hW c) (hS c)), ((h c).1 6).trans (array6 m c _ _ _ (hA c) (hW c) (hS c)),
    ((h c).1 7).trans (array7 m c _ (hA c)), ((h c).1 8).trans (array8 m c _ (hA c)),
    ((h c).2 main_arg0 (Pipeline.mem_restRefs_of main_arg0 (by decide) (by decide))).trans (V_main_arg0 m c),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩

end Cert.ReferenceIdeal.Proof
-- ==== Proof.lean ====
module

public import proofs.«01_k».proof.Proof.Gen.ReferenceIdeal.Frame
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Printed.Run
public import proofs.«01_k».proof.Proof.KernelResult
public import proofs.«01_k».proof.Proof.RefResult
public import Idealize.ShloMosaic.Adequacy
public import Idealize.ShloMosaic.Init

@[expose] public section

noncomputable section

namespace Cert.Proof

open Idealize.ShloMosaic Idealize.SL.Sem Cert.Kernel

/-- Over the reals the kernel and the reference return the same arrays. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, _, _, _, _, _, Cert.KernelIdeal.Proof.result m g,
    Cert.ReferenceIdeal.Proof.result m' g' (Cert.KernelIdeal.Proof.arrA m) (Cert.KernelIdeal.Proof.arrW m) (Cert.KernelIdeal.Proof.arrS m)
      (fun c r k => ?_) (fun c n k => ?_) (fun c a b => ?_)⟩
  · unfold Cert.KernelIdeal.Proof.arrA
    rw [Cert.KernelIdeal.Proof.grid2_apply, Cert.KernelIdeal.Proof.gradient, Cert.ReferenceIdeal.Proof.gradient, (hargs c).1]
  · unfold Cert.KernelIdeal.Proof.arrW
    rw [Cert.KernelIdeal.Proof.grid2_apply, Cert.KernelIdeal.Gen.V_main_arg1, Cert.ReferenceIdeal.Gen.V_main_arg1, (hargs c).2.1]
  · unfold Cert.KernelIdeal.Proof.arrS
    rw [Cert.KernelIdeal.Proof.grid2_apply, Cert.KernelIdeal.Gen.V_main_arg2, Cert.ReferenceIdeal.Gen.V_main_arg2, (hargs c).2.2]

/-- Every claim of the certificate. -/
theorem claim : Cert.Claim := ⟨Cert.Kernel.Gen.facts, Cert.KernelIdeal.Gen.facts, Cert.ReferenceIdeal.Gen.facts,
  fun m g _ => Cert.Kernel.Proof.frame m g, fun m g _ => Cert.KernelIdeal.Proof.frame m g, fun m g _ => Cert.ReferenceIdeal.Gen.frame m g,
  trivial, algebraic⟩

end Cert.Proof

end
